-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S11x2048x5120 : Shape := ⟨3, ![11, 2048, 5120]⟩
abbrev S11x2048x2560 : Shape := ⟨3, ![11, 2048, 2560]⟩
abbrev S_ : Shape := ⟨0, ![]⟩

class Facts : Prop where
  bitsLt_bf16_f32 : FTy.bits .bf16 < FTy.bits .f32
  bcast_S_S11x2048x5120 : S_.BroadcastsInDim S11x2048x5120 (![] : Fin 0 → Fin S11x2048x5120.rank)
  reducesTo_S11x2048x5120_S_d0_1_2 : S11x2048x5120.ReducesTo [0, 1, 2] S_
  h_S_ : 0 < S_.numel
  bcast_S_S11x2048x2560 : S_.BroadcastsInDim S11x2048x2560 (![] : Fin 0 → Fin S11x2048x2560.rank)
  reducesTo_S11x2048x2560_S_d0_1_2 : S11x2048x2560.ReducesTo [0, 1, 2] S_

variable [Facts]

def fn {F : FTy → Type} [FloatOps F] (main_arg0 : FVec F S11x2048x5120 .bf16) (main_arg1 : FVec F S11x2048x2560 .bf16) : IVec S_ 1 :=
  let main_v0 : FVec F S11x2048x5120 .f32 := (extf .f32 · bitsLt_bf16_f32) main_arg0
  let main_v1 : FVec F S11x2048x5120 .f32 := Host.absf main_v0
  let main_cst : FVec F S_ .f32 := constant S_ .f32 0x55800000#32
  let main_v2 : FVec F S11x2048x5120 .f32 := broadcastInDim S11x2048x5120 ![] bcast_S_S11x2048x5120 main_cst
  let main_v3 : IVec S11x2048x5120 1 := cmpf .ole main_v1 main_v2
  let main_c : IVec S_ 1 := constantI S_ 1 1#1
  let main_v4 : IVec S_ 1 := (fun x v => Host.reduce IntOp.andi x v reducesTo_S11x2048x5120_S_d0_1_2 h_S_) main_v3 main_c
  let main_v5 : FVec F S11x2048x2560 .f32 := (extf .f32 · bitsLt_bf16_f32) main_arg1
  let main_v6 : FVec F S11x2048x2560 .f32 := Host.absf main_v5
  let main_cst_0 : FVec F S_ .f32 := constant S_ .f32 0x55800000#32
  let main_v7 : FVec F S11x2048x2560 .f32 := broadcastInDim S11x2048x2560 ![] bcast_S_S11x2048x2560 main_cst_0
  let main_v8 : IVec S11x2048x2560 1 := cmpf .ole main_v6 main_v7
  let main_c_1 : IVec S_ 1 := constantI S_ 1 1#1
  let main_v9 : IVec S_ 1 := (fun x v => Host.reduce IntOp.andi x v reducesTo_S11x2048x2560_S_d0_1_2 h_S_) main_v8 main_c_1
  let main_v10 : IVec S_ 1 := andi main_v4 main_v9
  main_v10
-- ==== Kernel.lean ====
abbrev S11x2048x5120 : Shape := ⟨3, ![11, 2048, 5120]⟩
abbrev S11x2048x2560 : Shape := ⟨3, ![11, 2048, 2560]⟩
abbrev S22528x5120 : Shape := ⟨2, ![22528, 5120]⟩
abbrev S22528x2560 : Shape := ⟨2, ![22528, 2560]⟩
abbrev S40x22528 : Shape := ⟨2, ![40, 22528]⟩
abbrev S5120x22528 : Shape := ⟨2, ![5120, 22528]⟩
abbrev S176x5120 : Shape := ⟨2, ![176, 5120]⟩
abbrev S1024x1024 : Shape := ⟨2, ![1024, 1024]⟩
abbrev S1024x512 : Shape := ⟨2, ![1024, 512]⟩
abbrev S8x1024 : Shape := ⟨2, ![8, 1024]⟩
abbrev S256x1024 : Shape := ⟨2, ![256, 1024]⟩
abbrev S8x1x1024 : Shape := ⟨3, ![8, 1, 1024]⟩
abbrev S256x256 : Shape := ⟨2, ![256, 256]⟩
abbrev S128x128 : Shape := ⟨2, ![128, 128]⟩
abbrev S128 : Shape := ⟨1, ![128]⟩
abbrev S1x128 : Shape := ⟨2, ![1, 128]⟩
abbrev S255x128 : Shape := ⟨2, ![255, 128]⟩
abbrev S1x1x128 : Shape := ⟨3, ![1, 1, 128]⟩
abbrev S1x256 : Shape := ⟨2, ![1, 256]⟩
abbrev S128x256 : Shape := ⟨2, ![128, 256]⟩
abbrev S8x256 : Shape := ⟨2, ![8, 256]⟩
abbrev S22528x40 : Shape := ⟨2, ![22528, 40]⟩
abbrev S5120x176 : Shape := ⟨2, ![5120, 176]⟩

abbrev nBuf : Space → Nat
  | .hbm => 10
  | .vmem => 14
  | .smem => 0
  | _ => 0

abbrev bufTy : (tb : Table) → Fin (tcTables nBuf tb) → BufTy
  | .hbm, ⟨0, _⟩ => ⟨S11x2048x5120, .bf16⟩
  | .hbm, ⟨1, _⟩ => ⟨S11x2048x2560, .bf16⟩
  | .hbm, ⟨2, _⟩ => ⟨S22528x5120, .bf16⟩
  | .hbm, ⟨3, _⟩ => ⟨S22528x2560, .bf16⟩
  | .hbm, ⟨4, _⟩ => ⟨S22528x5120, .fp8e4m3⟩
  | .hbm, ⟨5, _⟩ => ⟨S40x22528, .f32⟩
  | .hbm, ⟨6, _⟩ => ⟨S5120x22528, .fp8e4m3⟩
  | .hbm, ⟨7, _⟩ => ⟨S176x5120, .f32⟩
  | .hbm, ⟨8, _⟩ => ⟨S22528x40, .f32⟩
  | .hbm, ⟨9, _⟩ => ⟨S5120x176, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .fp8e4m3⟩
  | .local _ .vmem, ⟨5, _⟩ => ⟨S1024x1024, .fp8e4m3⟩
  | .local _ .vmem, ⟨6, _⟩ => ⟨S8x1024, .f32⟩
  | .local _ .vmem, ⟨7, _⟩ => ⟨S8x1024, .f32⟩
  | .local _ .vmem, ⟨8, _⟩ => ⟨S1024x1024, .fp8e4m3⟩
  | .local _ .vmem, ⟨9, _⟩ => ⟨S1024x1024, .fp8e4m3⟩
  | .local _ .vmem, ⟨10, _⟩ => ⟨S8x1024, .f32⟩
  | .local _ .vmem, ⟨11, _⟩ => ⟨S8x1024, .f32⟩
  | .local _ .vmem, ⟨12, _⟩ => ⟨S256x1024, .f32⟩
  | .local _ .vmem, ⟨13, _⟩ => ⟨S8x1x1024, .f32⟩
  | _, _ => ⟨S11x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![22, 5], ![false, false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  v12
def k0_off1 (k0_t1 : Fin k0_t1_loop.trips) (c0_i32_6 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v14 : BitVec 32 := Scalar.addi v13 c0_i32_6
  let v15 : Index := Scalar.indexCast v14
  let c0_7 : Index := 0#32
  ![v15.toNat, 0]
def k0_off2 (k0_t1 : Fin k0_t1_loop.trips) (c0_i32_6 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v14 : BitVec 32 := Scalar.addi v13 c0_i32_6
  let v19 : Index := Scalar.indexCast v14
  let c128 : Index := 128#32
  ![v19.toNat, 128]
def k0_off3 (k0_t1 : Fin k0_t1_loop.trips) (c0_i32_6 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v14 : BitVec 32 := Scalar.addi v13 c0_i32_6
  let v23 : Index := Scalar.indexCast v14
  let c0_8 : Index := 0#32
  ![v23.toNat, 0]
def k0_off4 (k0_t1 : Fin k0_t1_loop.trips) (c0_i32_20 : BitVec 32) : Fin 3 → Nat :=
  let c0_i32 : BitVec 32 := 0#32
  let c1_i32 : BitVec 32 := 1#32
  let arg10 : BitVec 32 := Scf.iv c0_i32 c1_i32 k0_t1
  let c2_i32 : BitVec 32 := 2#32
  let v71 : BitVec 32 := Scalar.muli arg10 c2_i32
  let v72 : BitVec 32 := Scalar.addi v71 c0_i32_20
  let v73 : Index := Scalar.indexCast v72
  let c0_21 : Index := 0#32
  let c0_22 : Index := 0#32
  ![v73.toNat, 0, 0]
def k0_off5 (k0_t1 : Fin k0_t1_loop.trips) (c0_i32_52 : BitVec 32) : Fin 3 → Nat :=
  let c0_i32 : BitVec 32 := 0#32
  let c1_i32 : BitVec 32 := 1#32
  let arg10 : BitVec 32 := Scf.iv c0_i32 c1_i32 k0_t1
  let c2_i32_51 : BitVec 32 := 2#32
  let v146 : BitVec 32 := Scalar.muli arg10 c2_i32_51
  let v147 : BitVec 32 := Scalar.addi v146 c0_i32_52
  let v148 : Index := Scalar.indexCast v147
  let c0_53 : Index := 0#32
  let c128_54 : Index := 128#32
  ![v148.toNat, 0, 128]
def k0_off6 (k0_t1 : Fin k0_t1_loop.trips) (c0_i32_141 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v377 : BitVec 32 := Scalar.addi v13 c0_i32_141
  let v378 : Index := Scalar.indexCast v377
  let c0_142 : Index := 0#32
  ![v378.toNat, 0]
def k0_off7 (k0_t1 : Fin k0_t1_loop.trips) : Fin 2 → Nat :=
  let c0_154 : Index := 0#32
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v408 : Index := Scalar.indexCast v13
  ![0, v408.toNat]
def k0_off8 (k0_t1 : Fin k0_t1_loop.trips) (c0_i32_155 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v410 : BitVec 32 := Scalar.addi v13 c0_i32_155
  let v411 : Index := Scalar.indexCast v410
  let c256 : Index := 256#32
  ![v411.toNat, 256]
def k0_off9 (k0_t1 : Fin k0_t1_loop.trips) (c0_i32_155 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v410 : BitVec 32 := Scalar.addi v13 c0_i32_155
  let v415 : Index := Scalar.indexCast v410
  let c384 : Index := 384#32
  ![v415.toNat, 384]
def k0_off10 (k0_t1 : Fin k0_t1_loop.trips) (c0_i32_155 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v410 : BitVec 32 := Scalar.addi v13 c0_i32_155
  let v419 : Index := Scalar.indexCast v410
  let c128_156 : Index := 128#32
  ![v419.toNat, 128]
def k0_off11 (k0_t1 : Fin k0_t1_loop.trips) (c0_i32_174 : BitVec 32) : Fin 3 → Nat :=
  let c0_i32 : BitVec 32 := 0#32
  let c1_i32 : BitVec 32 := 1#32
  let arg10 : BitVec 32 := Scf.iv c0_i32 c1_i32 k0_t1
  let c2_i32_173 : BitVec 32 := 2#32
  let v467 : BitVec 32 := Scalar.muli arg10 c2_i32_173
  let v468 : BitVec 32 := Scalar.addi v467 c0_i32_174
  let v469 : Index := Scalar.indexCast v468
  let c0_175 : Index := 0#32
  let c256_176 : Index := 256#32
  ![v469.toNat, 0, 256]
def k0_off12 (k0_t1 : Fin k0_t1_loop.trips) (c0_i32_206 : BitVec 32) : Fin 3 → Nat :=
  let c0_i32 : BitVec 32 := 0#32
  let c1_i32 : BitVec 32 := 1#32
  let arg10 : BitVec 32 := Scf.iv c0_i32 c1_i32 k0_t1
  let c2_i32_205 : BitVec 32 := 2#32
  let v542 : BitVec 32 := Scalar.muli arg10 c2_i32_205
  let v543 : BitVec 32 := Scalar.addi v542 c0_i32_206
  let v544 : Index := Scalar.indexCast v543
  let c0_207 : Index := 0#32
  let c384_208 : Index := 384#32
  ![v544.toNat, 0, 384]
def k0_off13 (k0_t1 : Fin k0_t1_loop.trips) (c0_i32_296 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v773 : BitVec 32 := Scalar.addi v13 c0_i32_296
  let v774 : Index := Scalar.indexCast v773
  let c256_297 : Index := 256#32
  ![v774.toNat, 256]
def k0_off14 (k0_t1 : Fin k0_t1_loop.trips) : Fin 2 → Nat :=
  let c256_309 : Index := 256#32
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v804 : Index := Scalar.indexCast v13
  ![256, v804.toNat]
def k0_off15 (k0_t1 : Fin k0_t1_loop.trips) (c0_i32_310 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v806 : BitVec 32 := Scalar.addi v13 c0_i32_310
  let v807 : Index := Scalar.indexCast v806
  let c512 : Index := 512#32
  ![v807.toNat, 512]
def k0_off16 (k0_t1 : Fin k0_t1_loop.trips) (c0_i32_310 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v806 : BitVec 32 := Scalar.addi v13 c0_i32_310
  let v811 : Index := Scalar.indexCast v806
  let c640 : Index := 640#32
  ![v811.toNat, 640]
def k0_off17 (k0_t1 : Fin k0_t1_loop.trips) (c0_i32_310 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v806 : BitVec 32 := Scalar.addi v13 c0_i32_310
  let v815 : Index := Scalar.indexCast v806
  let c256_311 : Index := 256#32
  ![v815.toNat, 256]
def k0_off18 (k0_t1 : Fin k0_t1_loop.trips) (c0_i32_329 : BitVec 32) : Fin 3 → Nat :=
  let c0_i32 : BitVec 32 := 0#32
  let c1_i32 : BitVec 32 := 1#32
  let arg10 : BitVec 32 := Scf.iv c0_i32 c1_i32 k0_t1
  let c2_i32_328 : BitVec 32 := 2#32
  let v863 : BitVec 32 := Scalar.muli arg10 c2_i32_328
  let v864 : BitVec 32 := Scalar.addi v863 c0_i32_329
  let v865 : Index := Scalar.indexCast v864
  let c0_330 : Index := 0#32
  let c512_331 : Index := 512#32
  ![v865.toNat, 0, 512]
def k0_off19 (k0_t1 : Fin k0_t1_loop.trips) (c0_i32_361 : BitVec 32) : Fin 3 → Nat :=
  let c0_i32 : BitVec 32 := 0#32
  let c1_i32 : BitVec 32 := 1#32
  let arg10 : BitVec 32 := Scf.iv c0_i32 c1_i32 k0_t1
  let c2_i32_360 : BitVec 32 := 2#32
  let v938 : BitVec 32 := Scalar.muli arg10 c2_i32_360
  let v939 : BitVec 32 := Scalar.addi v938 c0_i32_361
  let v940 : Index := Scalar.indexCast v939
  let c0_362 : Index := 0#32
  let c640_363 : Index := 640#32
  ![v940.toNat, 0, 640]
def k0_off20 (k0_t1 : Fin k0_t1_loop.trips) (c0_i32_451 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1169 : BitVec 32 := Scalar.addi v13 c0_i32_451
  let v1170 : Index := Scalar.indexCast v1169
  let c512_452 : Index := 512#32
  ![v1170.toNat, 512]
def k0_off21 (k0_t1 : Fin k0_t1_loop.trips) : Fin 2 → Nat :=
  let c512_464 : Index := 512#32
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1200 : Index := Scalar.indexCast v13
  ![512, v1200.toNat]
def k0_off22 (k0_t1 : Fin k0_t1_loop.trips) (c0_i32_465 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1202 : BitVec 32 := Scalar.addi v13 c0_i32_465
  let v1203 : Index := Scalar.indexCast v1202
  let c768 : Index := 768#32
  ![v1203.toNat, 768]
def k0_off23 (k0_t1 : Fin k0_t1_loop.trips) (c0_i32_465 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1202 : BitVec 32 := Scalar.addi v13 c0_i32_465
  let v1207 : Index := Scalar.indexCast v1202
  let c896 : Index := 896#32
  ![v1207.toNat, 896]
def k0_off24 (k0_t1 : Fin k0_t1_loop.trips) (c0_i32_465 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1202 : BitVec 32 := Scalar.addi v13 c0_i32_465
  let v1211 : Index := Scalar.indexCast v1202
  let c384_466 : Index := 384#32
  ![v1211.toNat, 384]
def k0_off25 (k0_t1 : Fin k0_t1_loop.trips) (c0_i32_484 : BitVec 32) : Fin 3 → Nat :=
  let c0_i32 : BitVec 32 := 0#32
  let c1_i32 : BitVec 32 := 1#32
  let arg10 : BitVec 32 := Scf.iv c0_i32 c1_i32 k0_t1
  let c2_i32_483 : BitVec 32 := 2#32
  let v1259 : BitVec 32 := Scalar.muli arg10 c2_i32_483
  let v1260 : BitVec 32 := Scalar.addi v1259 c0_i32_484
  let v1261 : Index := Scalar.indexCast v1260
  let c0_485 : Index := 0#32
  let c768_486 : Index := 768#32
  ![v1261.toNat, 0, 768]
def k0_off26 (k0_t1 : Fin k0_t1_loop.trips) (c0_i32_516 : BitVec 32) : Fin 3 → Nat :=
  let c0_i32 : BitVec 32 := 0#32
  let c1_i32 : BitVec 32 := 1#32
  let arg10 : BitVec 32 := Scf.iv c0_i32 c1_i32 k0_t1
  let c2_i32_515 : BitVec 32 := 2#32
  let v1334 : BitVec 32 := Scalar.muli arg10 c2_i32_515
  let v1335 : BitVec 32 := Scalar.addi v1334 c0_i32_516
  let v1336 : Index := Scalar.indexCast v1335
  let c0_517 : Index := 0#32
  let c896_518 : Index := 896#32
  ![v1336.toNat, 0, 896]
def k0_off27 (k0_t1 : Fin k0_t1_loop.trips) (c0_i32_606 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1565 : BitVec 32 := Scalar.addi v13 c0_i32_606
  let v1566 : Index := Scalar.indexCast v1565
  let c768_607 : Index := 768#32
  ![v1566.toNat, 768]
def k0_off28 (k0_t1 : Fin k0_t1_loop.trips) : Fin 2 → Nat :=
  let c768_619 : Index := 768#32
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1596 : Index := Scalar.indexCast v13
  ![768, v1596.toNat]
def k0_off29 (k0_t1 : Fin k0_t1_loop.trips) : Fin 2 → Nat :=
  let c0_620 : Index := 0#32
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := v12
  let v1599 : Index := Scalar.indexCast v13
  ![0, v1599.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S11x2048x5120 : Shape := ⟨3, ![11, 2048, 5120]⟩
abbrev S11x2048x2560 : Shape := ⟨3, ![11, 2048, 2560]⟩
abbrev S22528x20x2x128 : Shape := ⟨4, ![22528, 20, 2, 128]⟩
abbrev S22528x20x1x128 : Shape := ⟨4, ![22528, 20, 1, 128]⟩
abbrev S22528x20x128 : Shape := ⟨3, ![22528, 20, 128]⟩
abbrev S_ : Shape := ⟨0, ![]⟩
abbrev S22528x5120 : Shape := ⟨2, ![22528, 5120]⟩
abbrev S22528x40x128 : Shape := ⟨3, ![22528, 40, 128]⟩
abbrev S22528x40 : Shape := ⟨2, ![22528, 40]⟩
abbrev S22528x40x1 : Shape := ⟨3, ![22528, 40, 1]⟩
abbrev S176x128x5120 : Shape := ⟨3, ![176, 128, 5120]⟩
abbrev S176x5120 : Shape := ⟨2, ![176, 5120]⟩
abbrev S176x1x5120 : Shape := ⟨3, ![176, 1, 5120]⟩
abbrev S5120x22528 : Shape := ⟨2, ![5120, 22528]⟩
abbrev S5120x176 : Shape := ⟨2, ![5120, 176]⟩

abbrev nBuf : Space → Nat
  | .hbm => 139
  | .vmem => 0
  | .smem => 0
  | _ => 0

abbrev hbmTy0_0 (i : Nat) : BufTy := match i % 128 with
  | 0 => ⟨S11x2048x5120, .bf16⟩
  | 1 => ⟨S11x2048x2560, .bf16⟩
  | 2 => ⟨S22528x20x2x128, .bf16⟩
  | 3 => ⟨S22528x20x2x128, .f32⟩
  | 4 => ⟨S22528x20x1x128, .f32⟩
  | 5 => ⟨S22528x20x128, .f32⟩
  | 6 => ⟨S22528x20x1x128, .f32⟩
  | 7 => ⟨S22528x20x128, .f32⟩
  | 8 => ⟨S22528x20x128, .bf16⟩
  | 9 => ⟨S22528x20x128, .f32⟩
  | 10 => ⟨S22528x20x128, .f32⟩
  | 11 => ⟨S22528x20x128, .f32⟩
  | 12 => ⟨S_, .f32⟩
  | 13 => ⟨S22528x20x128, .f32⟩
  | 14 => ⟨S22528x20x128, .f32⟩
  | 15 => ⟨S_, .f32⟩
  | 16 => ⟨S22528x20x128, .f32⟩
  | 17 => ⟨S22528x20x128, .f32⟩
  | 18 => ⟨S22528x20x128, .f32⟩
  | 19 => ⟨S22528x20x128, .f32⟩
  | 20 => ⟨S_, .f32⟩
  | 21 => ⟨S22528x20x128, .f32⟩
  | 22 => ⟨S22528x20x128, .f32⟩
  | 23 => ⟨S22528x20x128, .f32⟩
  | 24 => ⟨S_, .f32⟩
  | 25 => ⟨S22528x20x128, .f32⟩
  | 26 => ⟨S22528x20x128, .f32⟩
  | 27 => ⟨S22528x20x128, .f32⟩
  | 28 => ⟨S22528x20x128, .f32⟩
  | 29 => ⟨S22528x20x128, .f32⟩
  | 30 => ⟨S22528x20x1x128, .f32⟩
  | 31 => ⟨S22528x20x1x128, .f32⟩
  | 32 => ⟨S22528x20x2x128, .f32⟩
  | 33 => ⟨S22528x5120, .f32⟩
  | 34 => ⟨S22528x5120, .f32⟩
  | 35 => ⟨S22528x40x128, .f32⟩
  | 36 => ⟨S_, .f32⟩
  | 37 => ⟨S22528x40, .f32⟩
  | 38 => ⟨S22528x40x128, .f32⟩
  | 39 => ⟨S_, .f32⟩
  | 40 => ⟨S22528x40, .f32⟩
  | 41 => ⟨S22528x40, .f32⟩
  | 42 => ⟨S_, .f32⟩
  | 43 => ⟨S22528x40, .f32⟩
  | 44 => ⟨S22528x40, .i1⟩
  | 45 => ⟨S_, .f32⟩
  | 46 => ⟨S_, .f32⟩
  | 47 => ⟨S22528x40, .f32⟩
  | 48 => ⟨S22528x40, .f32⟩
  | 49 => ⟨S_, .f32⟩
  | 50 => ⟨S22528x40, .f32⟩
  | 51 => ⟨S22528x40, .i1⟩
  | 52 => ⟨S22528x40, .f32⟩
  | 53 => ⟨S_, .f32⟩
  | 54 => ⟨S_, .f32⟩
  | 55 => ⟨S_, .f32⟩
  | 56 => ⟨S22528x40, .f32⟩
  | 57 => ⟨S22528x40, .f32⟩
  | 58 => ⟨S22528x40, .f32⟩
  | 59 => ⟨S_, .f32⟩
  | 60 => ⟨S22528x40, .f32⟩
  | 61 => ⟨S22528x40, .f32⟩
  | 62 => ⟨S_, .f32⟩
  | 63 => ⟨S_, .f32⟩
  | 64 => ⟨S22528x40, .f32⟩
  | 65 => ⟨S22528x40, .f32⟩
  | 66 => ⟨S_, .f32⟩
  | 67 => ⟨S22528x40, .f32⟩
  | 68 => ⟨S22528x40, .f32⟩
  | 69 => ⟨S22528x40, .f32⟩
  | 70 => ⟨S_, .f32⟩
  | 71 => ⟨S22528x40, .f32⟩
  | 72 => ⟨S22528x40, .f32⟩
  | 73 => ⟨S22528x40x1, .f32⟩
  | 74 => ⟨S22528x40x128, .f32⟩
  | 75 => ⟨S22528x40x128, .f32⟩
  | 76 => ⟨S_, .f32⟩
  | 77 => ⟨S_, .f32⟩
  | 78 => ⟨S_, .f32⟩
  | 79 => ⟨S22528x40x128, .f32⟩
  | 80 => ⟨S22528x40x128, .f32⟩
  | 81 => ⟨S_, .f32⟩
  | 82 => ⟨S22528x40x128, .f32⟩
  | 83 => ⟨S22528x40x128, .f32⟩
  | 84 => ⟨S22528x40x128, .fp8e4m3⟩
  | 85 => ⟨S176x128x5120, .f32⟩
  | 86 => ⟨S_, .f32⟩
  | 87 => ⟨S176x5120, .f32⟩
  | 88 => ⟨S176x128x5120, .f32⟩
  | 89 => ⟨S_, .f32⟩
  | 90 => ⟨S176x5120, .f32⟩
  | 91 => ⟨S176x5120, .f32⟩
  | 92 => ⟨S_, .f32⟩
  | 93 => ⟨S176x5120, .f32⟩
  | 94 => ⟨S176x5120, .i1⟩
  | 95 => ⟨S_, .f32⟩
  | 96 => ⟨S_, .f32⟩
  | 97 => ⟨S176x5120, .f32⟩
  | 98 => ⟨S176x5120, .f32⟩
  | 99 => ⟨S_, .f32⟩
  | 100 => ⟨S176x5120, .f32⟩
  | 101 => ⟨S176x5120, .i1⟩
  | 102 => ⟨S176x5120, .f32⟩
  | 103 => ⟨S_, .f32⟩
  | 104 => ⟨S_, .f32⟩
  | 105 => ⟨S_, .f32⟩
  | 106 => ⟨S176x5120, .f32⟩
  | 107 => ⟨S176x5120, .f32⟩
  | 108 => ⟨S176x5120, .f32⟩
  | 109 => ⟨S_, .f32⟩
  | 110 => ⟨S176x5120, .f32⟩
  | 111 => ⟨S176x5120, .f32⟩
  | 112 => ⟨S_, .f32⟩
  | 113 => ⟨S_, .f32⟩
  | 114 => ⟨S176x5120, .f32⟩
  | 115 => ⟨S176x5120, .f32⟩
  | 116 => ⟨S_, .f32⟩
  | 117 => ⟨S176x5120, .f32⟩
  | 118 => ⟨S176x5120, .f32⟩
  | 119 => ⟨S176x5120, .f32⟩
  | 120 => ⟨S_, .f32⟩
  | 121 => ⟨S176x5120, .f32⟩
  | 122 => ⟨S176x5120, .f32⟩
  | 123 => ⟨S176x1x5120, .f32⟩
  | 124 => ⟨S176x128x5120, .f32⟩
  | 125 => ⟨S176x128x5120, .f32⟩
  | 126 => ⟨S_, .f32⟩
  | 127 => ⟨S_, .f32⟩
  | _ => ⟨S11x2048x5120, .bf16⟩

abbrev hbmTy0_1 (i : Nat) : BufTy := match i % 128 with
  | 0 => ⟨S_, .f32⟩
  | 1 => ⟨S176x128x5120, .f32⟩
  | 2 => ⟨S176x128x5120, .f32⟩
  | 3 => ⟨S_, .f32⟩
  | 4 => ⟨S176x128x5120, .f32⟩
  | 5 => ⟨S176x128x5120, .f32⟩
  | 6 => ⟨S176x128x5120, .fp8e4m3⟩
  | 7 => ⟨S22528x5120, .fp8e4m3⟩
  | 8 => ⟨S22528x5120, .fp8e4m3⟩
  | 9 => ⟨S5120x22528, .fp8e4m3⟩
  | 10 => ⟨S5120x176, .f32⟩
  | _ => ⟨S11x2048x5120, .bf16⟩

abbrev hbmTy (i : Nat) : BufTy := match i / 128 with
  | 0 => hbmTy0_0 i
  | 1 => hbmTy0_1 i
  | _ => ⟨S11x2048x5120, .bf16⟩

abbrev bufTy : (tb : Table) → Fin (tcTables nBuf tb) → BufTy
  | .hbm, ⟨i, _⟩ => hbmTy i
  | _, _ => ⟨S11x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_cst_14 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_cst_17 : Ref sig .tc := ⟨.hbm, 92, rfl⟩
abbrev main_v63 : Ref sig .tc := ⟨.hbm, 93, rfl⟩
abbrev main_v64 : Ref sig .tc := ⟨.hbm, 94, rfl⟩
abbrev main_cst_18 : Ref sig .tc := ⟨.hbm, 95, rfl⟩
abbrev main_call3_v0 : Ref sig .tc := ⟨.hbm, 96, rfl⟩
abbrev main_call3_v1 : Ref sig .tc := ⟨.hbm, 97, rfl⟩
abbrev main_v65 : Ref sig .tc := ⟨.hbm, 98, rfl⟩
abbrev main_cst_19 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_21 : Ref sig .tc := ⟨.hbm, 109, rfl⟩
abbrev main_v74 : Ref sig .tc := ⟨.hbm, 110, rfl⟩
abbrev main_v75 : Ref sig .tc := ⟨.hbm, 111, rfl⟩
abbrev main_cst_22 : Ref sig .tc := ⟨.hbm, 112, rfl⟩
abbrev main_call4_v0 : Ref sig .tc := ⟨.hbm, 113, rfl⟩
abbrev main_call4_v1 : Ref sig .tc := ⟨.hbm, 114, rfl⟩
abbrev main_v76 : Ref sig .tc := ⟨.hbm, 115, rfl⟩
abbrev main_cst_23 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_24 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_25 : Ref sig .tc := ⟨.hbm, 126, rfl⟩
abbrev main_cst_26 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩

abbrev nD : Nat := 1
abbrev τ : Topo := Topo.v7x

variable {F : FTy → Type} [FloatOps F]
-- ==== Proof.FrameKernel.lean ====
/-
  The frame of `Kernel`: it runs to the end without a fault, leaves its two arguments as it found them, and
  every semaphore counter reads zero at the end. Nothing is said here of what the kernel computes: all six
  windows of its one pipelined region are forgotten (taken at any contents, given back at any contents).
-/
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def forgets : Fin 6 → Bool := fun _ => true

/-- The proof data: the arrays as the region finds them, what the body leaves unnamed, the two scratch buffers at
    any contents, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What the body is given and what it gives back at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

/-- One run of the body, from any contents of its buffers to any contents of its buffers. -/
theorem kernelRun (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x1024 .fp8e4m3) (harg4 : arg4.IsWhole) (arg5 : Memref sig .tc .vmem S8x1024 .f32) (harg5 : arg5.IsWhole) (arg6 : Memref sig .tc .vmem S1024x1024 .fp8e4m3) (harg6 : arg6.IsWhole) (arg7 : Memref sig .tc .vmem S8x1024 .f32) (harg7 : arg7.IsWhole) (arg8 : Memref sig .tc .vmem S256x1024 .f32) (harg8 : arg8.IsWhole) (arg9 : Memref sig .tc .vmem S8x1x1024 .f32) (harg9 : arg9.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9))
      ⊢ (wp frame (wpE (defs₀ (F := F)) Variants.none (c : Thread nD τ) none) Set.univ
          (cc0_dswiglu_quant (F := F) i arg2 harg2 arg3 harg3 arg4 harg4 arg5 harg5 arg6 harg6 arg7 harg7 arg8 harg8 arg9 harg9)
          (fun _ => iprop((∃ f, arg2.view.loc (c : Thread nD τ) ↦[arg2.view.set]{fullShare} f) ∗ (∃ f, arg3.view.loc (c : Thread nD τ) ↦[arg3.view.set]{fullShare} f)
            ∗ (∃ f, arg4.view.loc (c : Thread nD τ) ↦[arg4.view.set]{fullShare} f) ∗ (∃ f, arg5.view.loc (c : Thread nD τ) ↦[arg5.view.set]{fullShare} f)
            ∗ (∃ f, arg6.view.loc (c : Thread nD τ) ↦[arg6.view.set]{fullShare} f) ∗ (∃ f, arg7.view.loc (c : Thread nD τ) ↦[arg7.view.set]{fullShare} f)
            ∗ (∃ f, arg8.view.loc (c : Thread nD τ) ↦[arg8.view.set]{fullShare} f) ∗ (∃ f, arg9.view.loc (c : Thread nD τ) ↦[arg9.view.set]{fullShare} f))) : sProp 𝕄) := by
  rw [cc0_dswiglu_quant_eq_skeleton]
  unfold cc0_dswiglu_quant_skel
  iintro ⟨H2, H3, H4, H5, H6, H7, H8, H9⟩
  sl_exec
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The body at point `t`, from what it is given to what it gives back. -/
theorem sound_body (c : Dev nD) (t : Fin cfg0.N) :
    bodyPre m c t ⊢ wp frame (wpE (defs₀ (F := F)) Variants.none c none) Set.univ (bodyAt0 t) (fun _ => bodyPre m c t) := by
  unfold bodyPre bodyAt0
  rw [show (dats m 0 c).Φ t.castSucc = Pipeline.ΦA spec0 c from rfl]
  unfold Pipeline.ΦA
  rw [scopedRest0_eq]
  unfold owns
  iintro ⟨⟨⟨⟨%g8, G8⟩, ⟨%g9, G9⟩⟩, Hg⟩, HO, ⟨%d0, %f0, -, H0⟩, ⟨%d1, %f1, -, H1⟩, ⟨%d2, %f2, -, H2⟩, ⟨%d3, %f3, -, H3⟩, ⟨%d4, %f4, -, H4⟩, ⟨%d5, %f5, -, H5⟩⟩
  iapply (wp_wand_r Idealize.ShloMosaic.frame (wpE (defs₀ (F := F)) Variants.none (c : Thread nD τ) none) Set.univ)
  isplitl [H0 H1 H2 H3 H4 H5 G8 G9]
  · iapply (kernelRun c _ _ _ _ _ _ _ _ _ _ _ _ _ _ _ _ _ f0 f1 f2 f3 f4 f5 g8 g9)
    isplitl [H0]; · iexact H0
    isplitl [H1]; · iexact H1
    isplitl [H2]; · iexact H2
    isplitl [H3]; · iexact H3
    isplitl [H4]; · iexact H4
    isplitl [H5]; · iexact H5
    isplitl [G8]; · simp only [Memref.view_whole, View.set_whole]; iexact G8
    simp only [Memref.view_whole, View.set_whole]; iexact G9
  iintro %_ ⟨⟨%e0, H0⟩, ⟨%e1, H1⟩, ⟨%e2, H2⟩, ⟨%e3, H3⟩, ⟨%e4, H4⟩, ⟨%e5, H5⟩, ⟨%e8, G8⟩, ⟨%e9, G9⟩⟩
  isplitl [G8 G9 Hg]
  · isplitl [G8 G9]
    · isplitl [G8]
      · iexists e8; simp only [Memref.view_whole, View.set_whole]; iexact G8
      iexists e9; simp only [Memref.view_whole, View.set_whole]; iexact G9
    iexact Hg
  isplitl [HO]; · iexact HO
  isplitl [H0]; · iexists _, e0; isplitr; swap; · iexact H0
                  ipureintro; rfl
  isplitl [H1]; · iexists _, e1; isplitr; swap; · iexact H1
                  ipureintro; rfl
  isplitl [H2]; · iexists _, e2; isplitr; swap; · iexact H2
                  ipureintro; rfl
  isplitl [H3]; · iexists _, e3; isplitr; swap; · iexact H3
                  ipureintro; rfl
  isplitl [H4]; · iexists _, e4; isplitr; swap; · iexact H4
                  ipureintro; rfl
  iexists _, e5; isplitr; swap; · iexact H5
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The two buffers the host lines after the region write. -/
def tailBufs : Finset (Ref sig .tc) := {main_v3, main_v4}

theorem tail_writes : ∀ ops ∈ ([hostOps1] : List (List (HloOp τ sig (Elt F)))), ∀ op ∈ ops, ∀ b : Ref sig .tc,
    Proc.devRef .tc b ∈ op.writes → b ∈ tailBufs := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, Finset.mem_singleton] at hb
    have h := Proc.devRef_injective _ hb
    subst h
    decide

set_option backward.isDefEq.respectTransparency.types false in
/-- From any memory with zero counters the program ends, nothing faults, the buffers it does not name as results are
    as at the region's entry, and every counter is zero. -/
theorem run_main :
    θ_run defs (onTc (τ := τ) (main (F := F))) (s₀ m ρ)
      (fun r => Pipeline.RDat.FramePostR (cfgs 0) (fun c => (dats m 0 c).toRForget forgets) tailBufs (V m) r ∧ r.2.sem = fun _ => 0) :=
  Pipeline.θ_run_frame_around_T_forget (Q' := _) cfgs (dats m) (0 : Fin 1) launch0 defs₀ Variants.none forgets tailBufs m ρ main
    (hbody := fun c => (body_obligation m c).loose) (hshare := fun c => (dats m 0 c).share_full fun _ => rfl)
    (howed := fun _ _ => rfl) (V₀ := V0 m) (opss := [hostOps1]) sfx_sub sfx_fresh sfx_keeps tail_writes
    (hmain := hmain m Variants.none) (hA := fun _ _ => by dsimp only [dats]) (hΦ := fun _ _ => rfl)

/-- The frame of `Kernel`, with its counters. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c)⟩, h.2⟩) (run_main m ρ)

end Cert.Kernel.Hand
end
-- ==== Proof.Spec.lean ====
module

public import Idealize.ShloMosaic.Lib.Pointwise

/-! What the kernel computes, as formulas on the extended reals. The gradient is a function `D` of a
row and a column; the codes and scales of its quantisation are stated from `D` alone, so that the same
formula serves a tile, a block and the whole array. -/

@[expose] public section

noncomputable section

namespace Cert.Spec

open Idealize.ShloMosaic Idealize.ShloMosaic.Tactic

/-- The gradient with respect to the gate, as the kernel groups it. -/
def dg (g u d : EReal) : EReal :=
  u * (d * Ideal.logistic g + d * Ideal.logistic g * g * (1 - Ideal.logistic g))

/-- The gradient with respect to the up projection. -/
def du (g d : EReal) : EReal := d * Ideal.logistic g * g

/-- The gradient at row `i`, column `c`: columns come in pairs of groups of 128, gate then up; the
incoming gradient has one group for each pair. -/
def dx (x y : ℕ → ℕ → EReal) (i c : ℕ) : EReal :=
  if c % 256 < 128 then dg (x i c) (x i (c + 128)) (y i (128 * (c / 256) + c % 128))
  else du (x i (c - 128)) (y i (128 * (c / 256) + c % 128))

/-- The largest magnitude among 128 values. -/
def amax (f : Fin 128 → EReal) : EReal :=
  Finset.fold max (Ideal.ofBits FTy.f32 4286578688#32) (fun k => FloatOps.absf (F := Ideal) (φ := .f32) (f k)) Finset.univ

/-- The exponent field of `a · κ`: how many of the 255 powers of two it reaches. -/
def expo (a : EReal) : BitVec 32 :=
  Finset.fold IntOp.addi (0#32)
    (fun k : Fin 255 =>
      if Ideal.ofBits FTy.f32 (IntOp.shli ArithUnit.vector (IntOp.addi (BitVec.ofNat 32 ↑k) 1#32) 23#32) ≤
          a * Ideal.ofBits FTy.f32 991054117#32 then 8388608#32 else 0#32)
    Finset.univ

/-- Whether the field is one of the two special ones. -/
def triv (a : EReal) : BitVec 1 :=
  IntOp.ori (IntOp.cmpi CmpIPredicate.eq (expo a) 0#32) (IntOp.cmpi CmpIPredicate.eq (expo a) 2139095040#32)

/-- The scale of a group whose largest magnitude is `a`. -/
def scl (a : EReal) : EReal :=
  Ideal.ofBits FTy.f32 (Scalar.select (triv a) 1065353216#32 (IntOp.addi (expo a) 8388608#32))

/-- Its inverse. -/
def inv (a : EReal) : EReal :=
  Ideal.ofBits FTy.f32 (Scalar.select (triv a) 1065353216#32 (IntOp.subi 2122317824#32 (expo a)))

/-- Clipping to the range of the codes. -/
def clip (v : EReal) : EReal :=
  min (Ideal.ofBits FTy.f32 1138753536#32) (max (Ideal.ofBits FTy.f32 3286237184#32) v)

variable (D : ℕ → ℕ → EReal)

/-- Largest magnitude of group `q` of row `i`. -/
def rmax (i q : ℕ) : EReal := amax fun k => D i (128 * q + k)

/-- Largest magnitude of group `p` of column `c`. -/
def cmax (p c : ℕ) : EReal := amax fun k => D (128 * p + k) c

/-- The code at row `i`, column `c`, scaled along the row. -/
def codes (i c : ℕ) : EReal := clip (D i c * inv (rmax D i (c / 128)))

/-- The code at row `i`, column `c`, scaled along the column. -/
def codesT (i c : ℕ) : EReal := clip (D i c * inv (cmax D (i / 128) c))

variable {D} {E : ℕ → ℕ → EReal} {a b R C : ℕ}

/-- Formulas of a block of an array are the array's formulas at the block's place. -/
theorem rmax_shift (h : ∀ i c, i < R → c < C → E i c = D (a + i) (128 * b + c)) {i q : ℕ} (hi : i < R) (hq : 128 * q + 128 ≤ C) :
    rmax E i q = rmax D (a + i) (b + q) := by
  unfold rmax; congr 1; funext k
  rw [h _ _ hi (by omega)]; congr 1; omega

theorem cmax_shift (h : ∀ i c, i < R → c < C → E i c = D (128 * a + i) (b + c)) {p c : ℕ} (hp : 128 * p + 128 ≤ R) (hc : c < C) :
    cmax E p c = cmax D (a + p) (b + c) := by
  unfold cmax; congr 1; funext k
  rw [h _ _ (by omega) hc]; congr 1; omega

theorem codes_shift (h : ∀ i c, i < R → c < C → E i c = D (a + i) (128 * b + c)) (hC : C % 128 = 0) {i c : ℕ} (hi : i < R) (hc : c < C) :
    codes E i c = codes D (a + i) (128 * b + c) := by
  unfold codes; rw [h _ _ hi hc, rmax_shift h hi (by omega)]; congr 4; omega

theorem codesT_shift (h : ∀ i c, i < R → c < C → E i c = D (128 * a + i) (b + c)) (hR : R % 128 = 0) {i c : ℕ} (hi : i < R) (hc : c < C) :
    codesT E i c = codesT D (128 * a + i) (b + c) := by
  unfold codesT; rw [h _ _ hi hc, cmax_shift h (by omega) hc]; congr 4; omega

/-- The gradient of a block whose first column starts a pair is the array's, at the block's place. -/
theorem dx_shift {x y x' y' : ℕ → ℕ → EReal} {i c : ℕ} (hC : C % 256 = 0) (hc : c < C)
    (hx : ∀ c, c < C → x' i c = x (a + i) (256 * b + c)) (hy : ∀ c, 2 * c < C → y' i c = y (a + i) (128 * b + c)) :
    dx x' y' i c = dx x y (a + i) (256 * b + c) := by
  unfold dx
  have e1 : (256 * b + c) % 256 = c % 256 := by omega
  have e2 : 128 * ((256 * b + c) / 256) + (256 * b + c) % 128 = 128 * b + (128 * (c / 256) + c % 128) := by omega
  rw [e1, e2, hy _ (by omega)]
  split
  · rw [hx _ hc, hx _ (by omega), Nat.add_assoc]
  · rw [hx _ (by omega), Nat.add_sub_assoc (by omega)]

end Cert.Spec
end
-- ==== Proof.Tile.lean ====
module

public import proofs.«01_k».proof.Proof.Gen.KernelIdeal.Loops
public import proofs.«01_k».proof.Proof.Spec

/-! One 128 × 128 tile of the kernel: the vector functions its payloads are made of. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline

/-- A tile of the input as the kernel reads it: cast to f32. -/
def inT (x : FVec Ideal S128x128 .bf16) : FVec Ideal S128x128 .f32 :=
  extf .f32 (shapeCast S128x128 x shapeCasts_S128x128_S128x128) bitsLt_bf16_f32

/-- The gradient of the up half, `d · sigmoid g · g`, on a tile. -/
def duT (g d : FVec Ideal S128x128 .bf16) : FVec Ideal S128x128 .f32 :=
  mulf (mulf (inT d) (logistic (inT g))) (inT g)

/-- The gradient of the gate half on a tile. -/
def dgT (g u d : FVec Ideal S128x128 .bf16) : FVec Ideal S128x128 .f32 :=
  mulf (inT u) (addf (mulf (inT d) (logistic (inT g)))
    (mulf (duT g d) (subf (broadcast S128x128 (Scalar.ofBits .f32 0x3F800000#32)) (logistic (inT g)))))

/-- The largest magnitude of every column. -/
def cmaxT (v : FVec Ideal S128x128 .f32) : FVec Ideal S1x128 .f32 :=
  shapeCast S1x128 (multiReduction .maximumf [0] S128 (absf v) 0xFF800000#32 reduces_S128x128_S128 (.inl rfl) rfl)
    shapeCasts_S128_S1x128

/-- The largest magnitude of every row. -/
def rmaxT (v : FVec Ideal S128x128 .f32) : FVec Ideal S1x128 .f32 :=
  shapeCast S1x128 (multiReduction .maximumf [0] S128 (transpose S128x128 [1, 0] (absf v) transposes_S128x128_p1_0_S128x128)
    0xFF800000#32 reduces_S128x128_S128 (.inl rfl) rfl) shapeCasts_S128_S1x128

/-- The exponent field of `a · κ`, counted. -/
def expoT (a : FVec Ideal S1x128 .f32) : IVec S1x128 32 :=
  shapeCast S1x128 (multiReductionI .add [0] S128
    (select (cmpf .oge (broadcastTo S255x128 (mulf a (broadcast S1x128 (Scalar.ofBits .f32 0x3B124925#32))) broadcasts_S1x128_S255x128)
        (bitcastToFloat .f32 (shli (addi (iota .tc S255x128 32 [0] iota_S255x128_d0_w32) (broadcast S255x128 1#32)) (broadcast S255x128 23#32))))
      (broadcast S255x128 8388608#32) (broadcast S255x128 0#32)) 0#32 reduces_S255x128_S128 rfl) shapeCasts_S128_S1x128

def trivT (a : FVec Ideal S1x128 .f32) : IVec S1x128 1 :=
  ori (cmpi .eq (expoT a) (broadcast S1x128 0#32)) (cmpi .eq (expoT a) (broadcast S1x128 2139095040#32))

/-- The scale. -/
def sclT (a : FVec Ideal S1x128 .f32) : FVec Ideal S1x128 .f32 :=
  bitcastToFloat .f32 (select (trivT a) (broadcast S1x128 1065353216#32) (addi (expoT a) (broadcast S1x128 8388608#32)))

/-- The inverse scale. -/
def invT (a : FVec Ideal S1x128 .f32) : FVec Ideal S1x128 .f32 :=
  bitcastToFloat .f32 (select (trivT a) (broadcast S1x128 1065353216#32) (subi (broadcast S1x128 2122317824#32) (expoT a)))

variable (v : FVec Ideal S128x128 .f32) (g u d : FVec Ideal S128x128 .bf16) (a : FVec Ideal S1x128 .f32)

theorem dgT_at (p q : Fin 128) : dgT g u d (ix2 p q) = Spec.dg (g (ix2 p q)) (u (ix2 p q)) (d (ix2 p q)) := by
  pointwise [dgT, duT, inT]
  rfl

theorem duT_at (p q : Fin 128) : duT g d (ix2 p q) = Spec.du (g (ix2 p q)) (d (ix2 p q)) := by
  pointwise [duT, inT]
  rfl

theorem cmaxT_at (z : Fin 1) (q : Fin 128) : cmaxT v (ix2 z q) = Spec.amax fun k => v (ix2 k q) := by
  pointwise [cmaxT]
  rfl

theorem rmaxT_at (z : Fin 1) (q : Fin 128) : rmaxT v (ix2 z q) = Spec.amax fun k => v (ix2 q k) := by
  pointwise [rmaxT]
  rfl

theorem expoT_at (z : Fin 1) (q : Fin 128) : expoT a (ix2 z q) = Spec.expo (a (ix2 z q)) := by
  obtain rfl : z = 0 := Subsingleton.elim _ _
  pointwise [expoT]
  rfl

theorem sclT_at (z : Fin 1) (q : Fin 128) : sclT a (ix2 z q) = Spec.scl (a (ix2 z q)) := by
  unfold Spec.scl Spec.triv
  rw [← expoT_at]
  rfl

theorem invT_at (z : Fin 1) (q : Fin 128) : invT a (ix2 z q) = Spec.inv (a (ix2 z q)) := by
  unfold Spec.inv Spec.triv
  rw [← expoT_at]
  rfl

/-- Two rows of 128 side by side. -/
def pairT (a b : FVec Ideal S1x128 .f32) : FVec Ideal S1x256 .f32 :=
  concatenate S1x256 1 [⟨S1x128, a⟩, ⟨S1x128, b⟩] concatenates_S1x128_S1x128_S1x256_d1

theorem pairT_at (a b : FVec Ideal S1x128 .f32) (z : Fin 1) (q : Fin 256) :
    pairT a b (ix2 z q) = if h : q.val < 128 then a (ix2 z ⟨q.val, h⟩) else b (ix2 z ⟨q.val - 128, by omega⟩) := by
  obtain rfl : z = 0 := Subsingleton.elim _ _
  pointwise [pairT]

/-- A sum against a row of the identity picks one term. -/
theorem sum_eye (p : Fin 256) (f : Fin 256 → EReal) :
    ∑ x : Fin 256, Scalar.select (IntOp.cmpi CmpIPredicate.eq (BitVec.ofNat 32 ↑p) (BitVec.ofNat 32 ↑x)) (f x) 0 = f p := by
  rw [Finset.sum_eq_single p]
  · simp [Scalar.select, IntOp.cmpi]
  · intro x _ hx
    have : BitVec.ofNat 32 p.val ≠ BitVec.ofNat 32 x.val := by
      intro h
      have := congrArg BitVec.toNat h
      simp only [BitVec.toNat_ofNat] at this
      omega
    simp only [Scalar.select, IntOp.cmpi, beq_eq_false_iff_ne.mpr this]
    rfl
  · simp

/-- The row factors of a 256 × 256 tile, turned into columns by a product with the identity: `a`, `b`
the rows of the left half, `c`, `d` those of the right. -/
def turnT (a b c d : FVec Ideal S1x128 .f32) : FVec Ideal S256x256 .f32 :=
  matmul dot_S256x256_S256x256_S256x256_1_1_0_0_n_n none (k0_pay1 (F := Ideal))
    (truncf .bf16 (concatenate S256x256 0
      [⟨S128x256, broadcastTo S128x256 (shapeCast S1x256 (pairT a b) shapeCasts_S1x256_S1x256) broadcasts_S1x256_S128x256⟩,
       ⟨S128x256, broadcastTo S128x256 (shapeCast S1x256 (pairT c d) shapeCasts_S1x256_S1x256) broadcasts_S1x256_S128x256⟩]
      concatenates_S128x256_S128x256_S256x256_d0) bitsLt_bf16_f32) (constant S256x256 .f32 0x00000000#32)

theorem turnT_at (a b c d : FVec Ideal S1x128 .f32) (p q : Fin 256) :
    turnT a b c d (ix2 p q) = if q.val < 128 then pairT a b (ix2 0 p) else pairT c d (ix2 0 p) := by
  pointwise [turnT, k0_pay1]
  rw [sum_eye]
  rfl

/-- Clipping a slab and casting it to the codes' type. -/
def clipT (v : FVec Ideal S128x256 .f32) : FVec Ideal S128x256 .fp8e4m3 :=
  truncf .fp8e4m3 (minimumf (broadcast S128x256 (Scalar.ofBits .f32 0x43E00000#32))
    (maximumf (broadcast S128x256 (Scalar.ofBits .f32 0xC3E00000#32)) v)) bitsLt_fp8e4m3_f32

theorem clipT_at (v : FVec Ideal S128x256 .f32) (p : Fin 128) (q : Fin 256) : clipT v (ix2 p q) = Spec.clip (v (ix2 p q)) := by
  pointwise [clipT]
  rfl

/-- The codes of the upper slab `v`, the factors `r` turned. -/
def rowT0 (v : FVec Ideal S128x256 .f32) (r : FVec Ideal S256x256 .f32) : FVec Ideal S128x256 .fp8e4m3 :=
  clipT (mulf v (extractStridedSlice S128x256 ![0, 0] r slices_S256x256_o0_0_S128x256))

/-- The codes of the lower slab. -/
def rowT1 (v : FVec Ideal S128x256 .f32) (r : FVec Ideal S256x256 .f32) : FVec Ideal S128x256 .fp8e4m3 :=
  clipT (mulf v (extractStridedSlice S128x256 ![128, 0] r slices_S256x256_o128_0_S128x256))

theorem rowT0_at (v : FVec Ideal S128x256 .f32) (r : FVec Ideal S256x256 .f32) (p : Fin 128) (q : Fin 256) :
    rowT0 v r (ix2 p q) = Spec.clip (v (ix2 p q) * r (ix2 ⟨p.val, by omega⟩ q)) := by
  rw [rowT0, clipT_at]
  pointwise

theorem rowT1_at (v : FVec Ideal S128x256 .f32) (r : FVec Ideal S256x256 .f32) (p : Fin 128) (q : Fin 256) :
    rowT1 v r (ix2 p q) = Spec.clip (v (ix2 p q) * r (ix2 ⟨128 + p.val, by omega⟩ q)) := by
  rw [rowT1, clipT_at]
  pointwise

/-- The codes of a slab scaled along its columns. -/
def colT (v : FVec Ideal S128x256 .f32) (r : FVec Ideal S1x256 .f32) : FVec Ideal S128x256 .fp8e4m3 :=
  clipT (mulf v (broadcastTo S128x256 r broadcasts_S1x256_S128x256))

theorem colT_at (v : FVec Ideal S128x256 .f32) (r : FVec Ideal S1x256 .f32) (p : Fin 128) (q : Fin 256) :
    colT v r (ix2 p q) = Spec.clip (v (ix2 p q) * r (ix2 0 q)) := by
  rw [colT, clipT_at]
  pointwise

/-- Two slabs of codes, one above the other, transposed by a product with the identity. -/
def transT (v w : FVec Ideal S128x256 .fp8e4m3) : FVec Ideal S256x256 .fp8e4m3 :=
  truncf .fp8e4m3 (matmul dot_S256x256_S256x256_S256x256_1_1_0_0_n_n none (k0_pay2 (F := Ideal))
    (concatenate S256x256 0 [⟨S128x256, v⟩, ⟨S128x256, w⟩] concatenates_S128x256_S128x256_S256x256_d0)
    (constant S256x256 .f32 0x00000000#32)) bitsLt_fp8e4m3_f32

theorem transT_at (v w : FVec Ideal S128x256 .fp8e4m3) (p q : Fin 256) :
    transT v w (ix2 p q) = if h : q.val < 128 then v (ix2 ⟨q.val, h⟩ p) else w (ix2 ⟨q.val - 128, by omega⟩ p) := by
  pointwise [transT, k0_pay2, k0_pay1]
  rw [sum_eye p fun x => if h : q.val < 128 then v (ix2 ⟨q.val, h⟩ x) else w (ix2 ⟨q.val - 128, by omega⟩ x)]

/-- The scales of the eight groups of 256 rows, one row for each group. -/
def stackT (r : Fin 8 → FVec Ideal S1x256 .f32) : FVec Ideal S8x256 .f32 :=
  k0_pay4 (r 0) (r 1) (r 2) (r 3) (r 4) (r 5) (r 6) (r 7)

theorem stackT_at (r : Fin 8 → FVec Ideal S1x256 .f32) (q : Fin 8) (p : Fin 256) : stackT r (ix2 q p) = r q (ix2 0 p) := by
  pointwise [stackT, k0_pay4]
  fin_cases q <;> rfl

end Cert.KernelIdeal.Hand
end
-- ==== Proof.Group.lean ====
module

public import proofs.«01_k».proof.Proof.Tile

/-! A 256 × 256 square of the gradient, held as four tiles and two slabs: the kernel's vector functions
on it are the formulas of the specification. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The four tiles `T h t` (half `h` of the columns, half `t` of the rows) hold the square `D`. -/
def Tiles (T : Fin 2 → Fin 2 → FVec Ideal S128x128 .f32) (D : ℕ → ℕ → EReal) : Prop :=
  ∀ (h t : Fin 2) (p q : Fin 128), T h t (ix2 p q) = D (128 * t.val + p.val) (128 * h.val + q.val)

/-- The two slabs of rows hold the square `D`. -/
def Slabs (S : Fin 2 → FVec Ideal S128x256 .f32) (D : ℕ → ℕ → EReal) : Prop :=
  ∀ (t : Fin 2) (p : Fin 128) (q : Fin 256), S t (ix2 p q) = D (128 * t.val + p.val) q.val

variable {T : Fin 2 → Fin 2 → FVec Ideal S128x128 .f32} {S : Fin 2 → FVec Ideal S128x256 .f32} {D : ℕ → ℕ → EReal}

theorem rmaxT_tile (hT : Tiles T D) (h t : Fin 2) (z : Fin 1) (p : Fin 128) :
    rmaxT (T h t) (ix2 z p) = Spec.rmax D (128 * t.val + p.val) h.val := by
  rw [rmaxT_at]; unfold Spec.rmax; congr 1; funext k; exact hT h t p k

theorem cmaxT_tile (hT : Tiles T D) (h t : Fin 2) (z : Fin 1) (q : Fin 128) :
    cmaxT (T h t) (ix2 z q) = Spec.cmax D t.val (128 * h.val + q.val) := by
  rw [cmaxT_at]; unfold Spec.cmax; congr 1; funext k; exact hT h t k q

/-- The turned row factors of the square. -/
def factors (T : Fin 2 → Fin 2 → FVec Ideal S128x128 .f32) : FVec Ideal S256x256 .f32 :=
  turnT (invT (rmaxT (T 0 0))) (invT (rmaxT (T 0 1))) (invT (rmaxT (T 1 0))) (invT (rmaxT (T 1 1)))

theorem pair_rows (hT : Tiles T D) (h : Fin 2) (f : FVec Ideal S1x128 .f32 → FVec Ideal S1x128 .f32) (f' : EReal → EReal)
    (hf : ∀ a z q, f a (ix2 z q) = f' (a (ix2 z q))) (z : Fin 1) (p : Fin 256) :
    pairT (f (rmaxT (T h 0))) (f (rmaxT (T h 1))) (ix2 z p) = f' (Spec.rmax D p.val h.val) := by
  rw [pairT_at]
  split
  · rw [hf, rmaxT_tile hT]; simp
  · rw [hf, rmaxT_tile hT]; congr 2; simp; omega

theorem pair_cols (hT : Tiles T D) (t : Fin 2) (z : Fin 1) (q : Fin 256) :
    pairT (invT (cmaxT (T 0 t))) (invT (cmaxT (T 1 t))) (ix2 z q) = Spec.inv (Spec.cmax D t.val q.val) := by
  rw [pairT_at]
  split
  · rw [invT_at, cmaxT_tile hT]; simp
  · rw [invT_at, cmaxT_tile hT]; congr 2; simp; omega

theorem factors_at (hT : Tiles T D) (p q : Fin 256) : factors T (ix2 p q) = Spec.inv (Spec.rmax D p.val (q.val / 128)) := by
  rw [factors, turnT_at, pair_rows hT 0 invT Spec.inv invT_at, pair_rows hT 1 invT Spec.inv invT_at]
  split
  · congr 2; show 0 = _; omega
  · congr 2; show 1 = _; omega

theorem codes0_at (hT : Tiles T D) (hS : Slabs S D) (p : Fin 128) (q : Fin 256) :
    rowT0 (S 0) (factors T) (ix2 p q) = Spec.codes D p.val q.val := by
  rw [rowT0_at, factors_at hT, hS]; simp [Spec.codes]

theorem codes1_at (hT : Tiles T D) (hS : Slabs S D) (p : Fin 128) (q : Fin 256) :
    rowT1 (S 1) (factors T) (ix2 p q) = Spec.codes D (128 + p.val) q.val := by
  rw [rowT1_at, factors_at hT, hS]; simp [Spec.codes]

/-- The codes scaled along columns, transposed. -/
def codesTT (T : Fin 2 → Fin 2 → FVec Ideal S128x128 .f32) (S : Fin 2 → FVec Ideal S128x256 .f32) : FVec Ideal S256x256 .fp8e4m3 :=
  transT (colT (S 0) (pairT (invT (cmaxT (T 0 0))) (invT (cmaxT (T 1 0)))))
    (colT (S 1) (pairT (invT (cmaxT (T 0 1))) (invT (cmaxT (T 1 1)))))

theorem codesTT_at (hT : Tiles T D) (hS : Slabs S D) (c p : Fin 256) : codesTT T S (ix2 c p) = Spec.codesT D p.val c.val := by
  rw [codesTT, transT_at]
  split
  · rw [colT_at, pair_cols hT, hS]; unfold Spec.codesT; congr 3
    · simp
    · congr 1; show 0 = _; omega
  · rw [colT_at, pair_cols hT, hS]; unfold Spec.codesT; congr 3
    · simp; omega
    · congr 1; show 1 = _; omega

/-- The column scales of a tile as stored. -/
def stT (v : FVec Ideal S128x128 .f32) : FVec Ideal S1x1x128 .f32 :=
  shapeCast S1x1x128 (sclT (cmaxT v)) shapeCasts_S1x128_S1x1x128

theorem stT_at (hT : Tiles T D) (h t : Fin 2) (y z : Fin 1) (q : Fin 128) :
    stT (T h t) (ix3 y z q) = Spec.scl (Spec.cmax D t.val (128 * h.val + q.val)) := by
  have : stT (T h t) (ix3 y z q) = sclT (cmaxT (T h t)) (ix2 0 q) := by
    obtain rfl : y = 0 := Subsingleton.elim _ _
    obtain rfl : z = 0 := Subsingleton.elim _ _
    pointwise [stT]
  rw [this, sclT_at, cmaxT_tile hT]

/-- The row scales of a half of the square. -/
def rsT (T : Fin 2 → Fin 2 → FVec Ideal S128x128 .f32) (h : Fin 2) : FVec Ideal S1x256 .f32 :=
  pairT (sclT (rmaxT (T h 0))) (sclT (rmaxT (T h 1)))

theorem rsT_at (hT : Tiles T D) (h : Fin 2) (z : Fin 1) (p : Fin 256) : rsT T h (ix2 z p) = Spec.scl (Spec.rmax D p.val h.val) :=
  pair_rows hT h sclT Spec.scl sclT_at z p

end Cert.KernelIdeal.Hand
end
-- ==== Proof.Square.lean ====
module

public import proofs.«01_k».proof.Proof.Group

/-! The four 256 × 256 squares one trip of the loop works on: what it loads, the tiles it computes from
the loads, and the slabs it reads back from the scratch. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A vector of two axes as a function of a row and a column, zero outside. -/
def fn2 {R C : ℕ} (f : (⟨2, ![R, C]⟩ : Shape).Idx → EReal) (i c : ℕ) : EReal :=
  if h : i < R ∧ c < C then f (ix2 ⟨i, h.1⟩ ⟨c, h.2⟩) else 0

theorem fn2_at {R C : ℕ} (f : (⟨2, ![R, C]⟩ : Shape).Idx → EReal) (i : Fin R) (c : Fin C) :
    fn2 f i.val c.val = f (ix2 i c) := by
  unfold fn2; rw [dif_pos ⟨i.isLt, c.isLt⟩]

theorem fn2_idx {R C : ℕ} (f : (⟨2, ![R, C]⟩ : Shape).Idx → EReal) (i : (⟨2, ![R, C]⟩ : Shape).Idx) :
    f i = fn2 f (i 0).val (i 1).val := by
  have e : i = ix2 (n0 := R) (n1 := C) (i 0) (i 1) := by funext a; fin_cases a <;> rfl
  exact (congrArg f e).trans (fn2_at f (i 0) (i 1)).symm

variable (arg2 : Memref sig .tc .vmem S1024x1024 .bf16) (arg3 : Memref sig .tc .vmem S1024x512 .bf16)
  (X2 : BufTy.Contents (Elt Ideal) arg2.view.ty) (X3 : BufTy.Contents (Elt Ideal) arg3.view.ty)
  (k : Fin k0_t1_loop.trips)

/-- The gradient of the block whose inputs the two buffers hold. -/
def blkD : ℕ → ℕ → EReal :=
  Spec.dx (fn2 (R := 1024) (C := 1024) (arg2.view.read (Elt Ideal) X2)) (fn2 (R := 1024) (C := 512) (arg3.view.read (Elt Ideal) X3))

/-- The square of trip `k` and pair of groups `j`. -/
def sqD (j : ℕ) (i c : ℕ) : EReal := blkD arg2 arg3 X2 X3 (256 * k.val + i) (256 * j + c)

/-- A load of a tile of the first input. -/
def ldx (off : Fin 2 → ℕ) (h : ∀ a, off a + S128x128.size a ≤ S1024x1024.size a) : FVec Ideal S128x128 .bf16 :=
  View.readAt (Elt Ideal) arg2.view (Rect.unit (s := S1024x1024) off S128x128.size h).toLoadRect X2

/-- A load of a tile of the second. -/
def ldy (off : Fin 2 → ℕ) (h : ∀ a, off a + S128x128.size a ≤ S1024x512.size a) : FVec Ideal S128x128 .bf16 :=
  View.readAt (Elt Ideal) arg3.view (Rect.unit (s := S1024x512) off S128x128.size h).toLoadRect X3

theorem ldx_at {off : Fin 2 → ℕ} (h) {a b : ℕ} (e : off = ![a, b]) (p q : Fin 128) :
    ldx arg2 X2 off h (ix2 p q) = fn2 (R := 1024) (C := 1024) (arg2.view.read (Elt Ideal) X2) (a + p.val) (b + q.val) := by
  subst e
  unfold ldx
  rw [View.readAt_apply]
  refine (fn2_idx (R := 1024) (C := 1024) (arg2.view.read (Elt Ideal) X2) _).trans ?_
  congr 1 <;> simp [Rect.toLoadRect, LoadRect.idx, Rect.unit]

theorem ldy_at {off : Fin 2 → ℕ} (h) {a b : ℕ} (e : off = ![a, b]) (p q : Fin 128) :
    ldy arg3 X3 off h (ix2 p q) = fn2 (R := 1024) (C := 512) (arg3.view.read (Elt Ideal) X3) (a + p.val) (b + q.val) := by
  subst e
  unfold ldy
  rw [View.readAt_apply]
  refine (fn2_idx (R := 1024) (C := 512) (arg3.view.read (Elt Ideal) X3) _).trans ?_
  congr 1 <;> simp [Rect.toLoadRect, LoadRect.idx, Rect.unit]

/-- The word by which the second half of a square's rows is offset. -/
abbrev rowW (t : Fin 2) : BitVec 32 := BitVec.ofNat 32 (128 * t.val)

/-- The tiles of a square, from where its three inputs are loaded. -/
def tile (ox ou oy : BitVec 32 → Fin 2 → ℕ)
    (hx : ∀ (t : Fin 2) a, ox (rowW t) a + S128x128.size a ≤ S1024x1024.size a)
    (hu : ∀ (t : Fin 2) a, ou (rowW t) a + S128x128.size a ≤ S1024x1024.size a)
    (hy : ∀ (t : Fin 2) a, oy (rowW t) a + S128x128.size a ≤ S1024x512.size a) :
    Fin 2 → Fin 2 → FVec Ideal S128x128 .f32
  | 0, t => dgT (ldx arg2 X2 (ox (rowW t)) (hx t)) (ldx arg2 X2 (ou (rowW t)) (hu t)) (ldy arg3 X3 (oy (rowW t)) (hy t))
  | 1, t => duT (ldx arg2 X2 (ox (rowW t)) (hx t)) (ldy arg3 X3 (oy (rowW t)) (hy t))

theorem tile_tiles {ox ou oy : BitVec 32 → Fin 2 → ℕ} (hx hu hy) {j : ℕ}
    (ex : ∀ t : Fin 2, ox (rowW t) = ![256 * k.val + 128 * t.val, 256 * j])
    (eu : ∀ t : Fin 2, ou (rowW t) = ![256 * k.val + 128 * t.val, 256 * j + 128])
    (ey : ∀ t : Fin 2, oy (rowW t) = ![256 * k.val + 128 * t.val, 128 * j]) :
    Tiles (tile arg2 arg3 X2 X3 ox ou oy hx hu hy) (sqD arg2 arg3 X2 X3 k j) := by
  intro h t p q
  match h with
  | 0 =>
    show dgT _ _ _ _ = _
    rw [dgT_at, ldx_at _ _ _ (ex t), ldx_at _ _ _ (eu t), ldy_at _ _ _ (ey t)]
    have := q.isLt
    have e1 : (256 * j + (128 * 0 + q.val)) % 256 = q.val := by omega
    have e2 : 128 * ((256 * j + (128 * 0 + q.val)) / 256) + (256 * j + (128 * 0 + q.val)) % 128 = 128 * j + q.val := by omega
    show _ = Spec.dx _ _ (256 * k.val + (128 * t.val + p.val)) (256 * j + (128 * 0 + q.val))
    unfold Spec.dx
    rw [e1, e2, if_pos (by omega)]
    congr 2 <;> omega
  | 1 =>
    show duT _ _ _ = _
    rw [duT_at, ldx_at _ _ _ (ex t), ldy_at _ _ _ (ey t)]
    have := q.isLt
    have e1 : (256 * j + (128 * 1 + q.val)) % 256 = 128 + q.val := by omega
    have e2 : 128 * ((256 * j + (128 * 1 + q.val)) / 256) + (256 * j + (128 * 1 + q.val)) % 128 = 128 * j + q.val := by omega
    show _ = Spec.dx _ _ (256 * k.val + (128 * t.val + p.val)) (256 * j + (128 * 1 + q.val))
    unfold Spec.dx
    rw [e1, e2, if_neg (by omega)]
    congr 2 <;> omega

/-- The tiles of the four squares. -/
def T0 := tile arg2 arg3 X2 X3 (k0_off1 k) (k0_off2 k) (k0_off3 k) (k0_off1_inb k) (k0_off2_inb k) (k0_off3_inb k)
def T1 := tile arg2 arg3 X2 X3 (k0_off8 k) (k0_off9 k) (k0_off10 k) (k0_off8_inb k) (k0_off9_inb k) (k0_off10_inb k)
def T2 := tile arg2 arg3 X2 X3 (k0_off15 k) (k0_off16 k) (k0_off17 k) (k0_off15_inb k) (k0_off16_inb k) (k0_off17_inb k)
def T3 := tile arg2 arg3 X2 X3 (k0_off22 k) (k0_off23 k) (k0_off24 k) (k0_off22_inb k) (k0_off23_inb k) (k0_off24_inb k)

theorem T0_tiles : Tiles (T0 arg2 arg3 X2 X3 k) (sqD arg2 arg3 X2 X3 k 0) :=
  tile_tiles arg2 arg3 X2 X3 k _ _ _ (k0_off1_eq k) (k0_off2_eq k) (k0_off3_eq k)
theorem T1_tiles : Tiles (T1 arg2 arg3 X2 X3 k) (sqD arg2 arg3 X2 X3 k 1) :=
  tile_tiles arg2 arg3 X2 X3 k _ _ _ (k0_off8_eq k) (k0_off9_eq k) (k0_off10_eq k)
theorem T2_tiles : Tiles (T2 arg2 arg3 X2 X3 k) (sqD arg2 arg3 X2 X3 k 2) :=
  tile_tiles arg2 arg3 X2 X3 k _ _ _ (k0_off15_eq k) (k0_off16_eq k) (k0_off17_eq k)
theorem T3_tiles : Tiles (T3 arg2 arg3 X2 X3 k) (sqD arg2 arg3 X2 X3 k 3) :=
  tile_tiles arg2 arg3 X2 X3 k _ _ _ (k0_off22_eq k) (k0_off23_eq k) (k0_off24_eq k)

end Cert.KernelIdeal.Hand
end
-- ==== Proof.Scratch.lean ====
module

public import proofs.«01_k».proof.Proof.Square

/-! The gradient in the scratch: what a trip stores there, and the slabs it reads back. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (arg2 : Memref sig .tc .vmem S1024x1024 .bf16) (arg3 : Memref sig .tc .vmem S1024x512 .bf16)
  (arg8 : Memref sig .tc .vmem S256x1024 .f32)
  (X2 : BufTy.Contents (Elt Ideal) arg2.view.ty) (X3 : BufTy.Contents (Elt Ideal) arg3.view.ty)
  (k : Fin k0_t1_loop.trips)

/-- Every piece of the list stores the values of one function of the destination's index. -/
def Good {s : Shape} {e : EltTy} (G : s.Idx → Elt Ideal e) (L : List (View.Piece (Elt Ideal) s e)) : Prop :=
  ∀ p ∈ L, ∀ x : p.1.shape.Idx, p.2 x = G (p.1.emb x)

theorem good_nil {s : Shape} {e : EltTy} (G : s.Idx → Elt Ideal e) : Good G [] := by simp [Good]

theorem good_cons {s : Shape} {e : EltTy} {G : s.Idx → Elt Ideal e} {p : View.Piece (Elt Ideal) s e}
    {L : List (View.Piece (Elt Ideal) s e)} (h : ∀ x : p.1.shape.Idx, p.2 x = G (p.1.emb x)) (hL : Good G L) : Good G (p :: L) := by
  intro q hq
  rcases List.mem_cons.mp hq with rfl | hq
  · exact h
  · exact hL q hq

/-- What the scratch holds during trip `k`. -/
def G8 : S256x1024.Idx → Elt Ideal .f32 := fun i => blkD arg2 arg3 X2 X3 (256 * k.val + (i 0).val) (i 1).val

theorem unit_emb_val {s : Shape} (off size : Fin s.rank → ℕ) (inb) (x : (Rect.unit (s := s) off size inb).shape.Idx) (a : Fin s.rank) :
    ((Rect.unit (s := s) off size inb).emb x a).val = off a + (x a).val := by
  exact congrArg (off a + ·) (Nat.one_mul _)

theorem piece8 {T : Fin 2 → Fin 2 → FVec Ideal S128x128 .f32} {j : ℕ} (hT : Tiles T (sqD arg2 arg3 X2 X3 k j)) (h t : Fin 2)
    {off : Fin 2 → ℕ} (e : off = ![128 * t.val, 256 * j + 128 * h.val]) (inb) (x : (Rect.unit (s := S256x1024) off S128x128.size inb).shape.Idx) :
    shapeCast S128x128 (T h t) shapeCasts_S128x128_S128x128 x = G8 arg2 arg3 X2 X3 k ((Rect.unit (s := S256x1024) off S128x128.size inb).emb x) := by
  unfold G8
  rw [unit_emb_val, unit_emb_val]
  subst e
  change S128x128.Idx at x
  idx_vars x
  have : shapeCast S128x128 (T h t) shapeCasts_S128x128_S128x128 (ix2 x0 x1) = T h t (ix2 x0 x1) := by pointwise
  rw [this, hT, sqD]
  simp only [ix2_0, ix2_1, Matrix.cons_val_zero, Matrix.cons_val_one]
  congr 1
  omega

theorem good4 : Good (G8 arg2 arg3 X2 X3 k) (trip_k0_t1.sl.HW_arg8_4 (F := Ideal) arg2 arg3 X2 X3 k) := by
  have hT := T0_tiles arg2 arg3 X2 X3 k
  unfold trip_k0_t1.sl.HW_arg8_4
  refine good_cons ?_ (good_cons ?_ (good_cons ?_ (good_cons ?_ (good_nil _))))
  · exact piece8 arg2 arg3 X2 X3 k hT 1 1 (by rfl) inb_S256x1024_S128x128_128_128
  · exact piece8 arg2 arg3 X2 X3 k hT 0 1 (by rfl) inb_S256x1024_S128x128_128_0
  · exact piece8 arg2 arg3 X2 X3 k hT 1 0 (by rfl) inb_S256x1024_S128x128_0_128
  · exact piece8 arg2 arg3 X2 X3 k hT 0 0 (by rfl) inb_S256x1024_S128x128_0_0

theorem good8 : Good (G8 arg2 arg3 X2 X3 k) (trip_k0_t1.sl.HW_arg8_8 (F := Ideal) arg2 arg3 X2 X3 k) := by
  have hT := T1_tiles arg2 arg3 X2 X3 k
  unfold trip_k0_t1.sl.HW_arg8_8
  refine good_cons ?_ (good_cons ?_ (good_cons ?_ (good_cons ?_ (good4 arg2 arg3 X2 X3 k))))
  · exact piece8 arg2 arg3 X2 X3 k hT 1 1 (by rfl) inb_S256x1024_S128x128_128_384
  · exact piece8 arg2 arg3 X2 X3 k hT 0 1 (by rfl) inb_S256x1024_S128x128_128_256
  · exact piece8 arg2 arg3 X2 X3 k hT 1 0 (by rfl) inb_S256x1024_S128x128_0_384
  · exact piece8 arg2 arg3 X2 X3 k hT 0 0 (by rfl) inb_S256x1024_S128x128_0_256

theorem good12 : Good (G8 arg2 arg3 X2 X3 k) (trip_k0_t1.sl.HW_arg8_12 (F := Ideal) arg2 arg3 X2 X3 k) := by
  have hT := T2_tiles arg2 arg3 X2 X3 k
  unfold trip_k0_t1.sl.HW_arg8_12
  refine good_cons ?_ (good_cons ?_ (good_cons ?_ (good_cons ?_ (good8 arg2 arg3 X2 X3 k))))
  · exact piece8 arg2 arg3 X2 X3 k hT 1 1 (by rfl) inb_S256x1024_S128x128_128_640
  · exact piece8 arg2 arg3 X2 X3 k hT 0 1 (by rfl) inb_S256x1024_S128x128_128_512
  · exact piece8 arg2 arg3 X2 X3 k hT 1 0 (by rfl) inb_S256x1024_S128x128_0_640
  · exact piece8 arg2 arg3 X2 X3 k hT 0 0 (by rfl) inb_S256x1024_S128x128_0_512

theorem good16 : Good (G8 arg2 arg3 X2 X3 k) (trip_k0_t1.sl.HW_arg8_16 (F := Ideal) arg2 arg3 X2 X3 k) := by
  have hT := T3_tiles arg2 arg3 X2 X3 k
  unfold trip_k0_t1.sl.HW_arg8_16
  refine good_cons ?_ (good_cons ?_ (good_cons ?_ (good_cons ?_ (good12 arg2 arg3 X2 X3 k))))
  · exact piece8 arg2 arg3 X2 X3 k hT 1 1 (by rfl) inb_S256x1024_S128x128_128_896
  · exact piece8 arg2 arg3 X2 X3 k hT 0 1 (by rfl) inb_S256x1024_S128x128_128_768
  · exact piece8 arg2 arg3 X2 X3 k hT 1 0 (by rfl) inb_S256x1024_S128x128_0_896
  · exact piece8 arg2 arg3 X2 X3 k hT 0 0 (by rfl) inb_S256x1024_S128x128_0_768

/-- A slab read back from pieces that are good and cover it is the square. -/
theorem slab {L : List (View.Piece (Elt Ideal) S256x1024 .f32)} (hL : Good (G8 arg2 arg3 X2 X3 k) L) (j : ℕ) (t : Fin 2)
    {off : Fin 2 → ℕ} (e : off = ![128 * t.val, 256 * j]) (inb)
    (hc : ∀ y ∈ (Rect.unit (s := S256x1024) off S128x256.size inb).set, ∃ p ∈ L, y ∈ p.1.set) (p : Fin 128) (q : Fin 256) :
    arg8.view.readCov L (Rect.unit (s := S256x1024) off S128x256.size inb).toLoadRect (ix2 p q)
      = sqD arg2 arg3 X2 X3 k j (128 * t.val + p.val) q.val := by
  rw [View.readCov_eq_canon']
  show View.canon L ((Rect.unit (s := S256x1024) off S128x256.size inb).emb (ix2 p q)) = _
  refine (View.canon_apply_of_pieces (Val := Elt Ideal) (e := .f32) (G8 arg2 arg3 X2 X3 k) L hL _ (hc _ (by rw [← Rect.map_emb_univ]; exact Finset.mem_map_of_mem _ (Finset.mem_univ _)))).trans ?_
  unfold G8 sqD
  rw [unit_emb_val, unit_emb_val]
  subst e
  rfl

/-- Four tiles cover both slabs of their square. -/
theorem cover4 {P : List (View.Piece (Elt Ideal) S256x1024 .f32)} {j : ℕ}
    {o11 o01 o10 o00 : Fin 2 → ℕ} {b11 b01 b10 b00} {v11 v01 v10 v00}
    (e11 : o11 = ![128, 256 * j + 128]) (e01 : o01 = ![128, 256 * j]) (e10 : o10 = ![0, 256 * j + 128]) (e00 : o00 = ![0, 256 * j])
    (t : Fin 2) {off : Fin 2 → ℕ} (e : off = ![128 * t.val, 256 * j]) (inb) :
    ∀ y ∈ (Rect.unit (s := S256x1024) off S128x256.size inb).set,
      ∃ p ∈ (⟨Rect.unit (s := S256x1024) o11 S128x128.size b11, v11⟩ :: ⟨Rect.unit (s := S256x1024) o01 S128x128.size b01, v01⟩ ::
        ⟨Rect.unit (s := S256x1024) o10 S128x128.size b10, v10⟩ :: ⟨Rect.unit (s := S256x1024) o00 S128x128.size b00, v00⟩ :: P :
          List (View.Piece (Elt Ideal) S256x1024 .f32)), y ∈ p.1.set := by
  subst e e11 e01 e10 e00
  intro y hy
  rw [Rect.mem_set_unit] at hy
  have h0 := hy 0
  have h1 := hy 1
  simp only [Matrix.cons_val_zero, Matrix.cons_val_one] at h0 h1
  have key : ∀ a b, a ≤ (y 0).val ∧ (y 0).val < a + 128 → b ≤ (y 1).val ∧ (y 1).val < b + 128 → ∀ inb,
      y ∈ (Rect.unit (s := S256x1024) ![a, b] S128x128.size inb).set := by
    intro a b ha hb inb
    rw [Rect.mem_set_unit]
    intro x
    match x with
    | 0 => exact ha
    | 1 => exact hb
  have ht := t.isLt
  by_cases c : (y 1).val < 256 * j + 128
  · by_cases r : t.val = 0
    · exact ⟨_, .tail _ (.tail _ (.tail _ (.head _))), key _ _ (by omega) (by omega) b00⟩
    · exact ⟨_, .tail _ (.head _), key _ _ (by omega) (by omega) b01⟩
  · by_cases r : t.val = 0
    · exact ⟨_, .tail _ (.tail _ (.head _)), key _ _ (by omega) (by omega) b10⟩
    · exact ⟨_, .head _, key _ _ (by omega) (by omega) b11⟩

/-- The slabs of the four squares. -/
def S0 : Fin 2 → FVec Ideal S128x256 .f32
  | 0 => trip_k0_t1.sl.v369 (F := Ideal) arg2 arg3 arg8 X2 X3 k
  | 1 => trip_k0_t1.sl.v387 (F := Ideal) arg2 arg3 arg8 X2 X3 k
def S1 : Fin 2 → FVec Ideal S128x256 .f32
  | 0 => trip_k0_t1.sl.v765 (F := Ideal) arg2 arg3 arg8 X2 X3 k
  | 1 => trip_k0_t1.sl.v783 (F := Ideal) arg2 arg3 arg8 X2 X3 k
def S2 : Fin 2 → FVec Ideal S128x256 .f32
  | 0 => trip_k0_t1.sl.v1161 (F := Ideal) arg2 arg3 arg8 X2 X3 k
  | 1 => trip_k0_t1.sl.v1179 (F := Ideal) arg2 arg3 arg8 X2 X3 k
def S3 : Fin 2 → FVec Ideal S128x256 .f32
  | 0 => trip_k0_t1.sl.v1557 (F := Ideal) arg2 arg3 arg8 X2 X3 k
  | 1 => trip_k0_t1.sl.v1575 (F := Ideal) arg2 arg3 arg8 X2 X3 k

theorem S0_slabs : Slabs (S0 arg2 arg3 arg8 X2 X3 k) (sqD arg2 arg3 X2 X3 k 0) := by
  intro t p q
  match t with
  | 0 => exact slab arg2 arg3 arg8 X2 X3 k (good4 arg2 arg3 X2 X3 k) 0 0 (by rfl) inb_S256x1024_S128x256_0_0
          (cover4 (j := 0) rfl rfl rfl rfl 0 rfl _) p q
  | 1 => exact slab arg2 arg3 arg8 X2 X3 k (good4 arg2 arg3 X2 X3 k) 0 1 (by rfl) inb_S256x1024_S128x256_128_0
          (cover4 (j := 0) rfl rfl rfl rfl 1 rfl _) p q

theorem S1_slabs : Slabs (S1 arg2 arg3 arg8 X2 X3 k) (sqD arg2 arg3 X2 X3 k 1) := by
  intro t p q
  match t with
  | 0 => exact slab arg2 arg3 arg8 X2 X3 k (good8 arg2 arg3 X2 X3 k) 1 0 (by rfl) inb_S256x1024_S128x256_0_256
          (cover4 (j := 1) rfl rfl rfl rfl 0 rfl _) p q
  | 1 => exact slab arg2 arg3 arg8 X2 X3 k (good8 arg2 arg3 X2 X3 k) 1 1 (by rfl) inb_S256x1024_S128x256_128_256
          (cover4 (j := 1) rfl rfl rfl rfl 1 rfl _) p q

theorem S2_slabs : Slabs (S2 arg2 arg3 arg8 X2 X3 k) (sqD arg2 arg3 X2 X3 k 2) := by
  intro t p q
  match t with
  | 0 => exact slab arg2 arg3 arg8 X2 X3 k (good12 arg2 arg3 X2 X3 k) 2 0 (by rfl) inb_S256x1024_S128x256_0_512
          (cover4 (j := 2) rfl rfl rfl rfl 0 rfl _) p q
  | 1 => exact slab arg2 arg3 arg8 X2 X3 k (good12 arg2 arg3 X2 X3 k) 2 1 (by rfl) inb_S256x1024_S128x256_128_512
          (cover4 (j := 2) rfl rfl rfl rfl 1 rfl _) p q

theorem S3_slabs : Slabs (S3 arg2 arg3 arg8 X2 X3 k) (sqD arg2 arg3 X2 X3 k 3) := by
  intro t p q
  match t with
  | 0 => exact slab arg2 arg3 arg8 X2 X3 k (good16 arg2 arg3 X2 X3 k) 3 0 (by rfl) inb_S256x1024_S128x256_0_768
          (cover4 (j := 3) rfl rfl rfl rfl 0 rfl _) p q
  | 1 => exact slab arg2 arg3 arg8 X2 X3 k (good16 arg2 arg3 X2 X3 k) 3 1 (by rfl) inb_S256x1024_S128x256_128_768
          (cover4 (j := 3) rfl rfl rfl rfl 1 rfl _) p q

end Cert.KernelIdeal.Hand
end
-- ==== Proof.Pieces.lean ====
module

public import proofs.«01_k».proof.Proof.Scratch

/-! The pieces a trip stores, each one values of a single function of the destination's index. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (arg2 : Memref sig .tc .vmem S1024x1024 .bf16) (arg3 : Memref sig .tc .vmem S1024x512 .bf16)
  (arg8 : Memref sig .tc .vmem S256x1024 .f32)
  (X2 : BufTy.Contents (Elt Ideal) arg2.view.ty) (X3 : BufTy.Contents (Elt Ideal) arg3.view.ty)
  (k : Fin k0_t1_loop.trips)

/-- The row codes of a block. -/
def G4 (D : ℕ → ℕ → EReal) : S1024x1024.Idx → Elt Ideal .fp8e4m3 := fun i => Spec.codes D (i 0).val (i 1).val
/-- The row scales of a block, transposed. -/
def G5 (D : ℕ → ℕ → EReal) : S8x1024.Idx → Elt Ideal .f32 := fun i => Spec.scl (Spec.rmax D (i 1).val (i 0).val)
/-- The column codes of a block, transposed. -/
def G6 (D : ℕ → ℕ → EReal) : S1024x1024.Idx → Elt Ideal .fp8e4m3 := fun i => Spec.codesT D (i 1).val (i 0).val
/-- The column scales of a block. -/
def G7 (D : ℕ → ℕ → EReal) : S8x1024.Idx → Elt Ideal .f32 := fun i => Spec.scl (Spec.cmax D (i 0).val (i 1).val)
/-- The column scales of a block as the second scratch holds them. -/
def G9 (D : ℕ → ℕ → EReal) : S8x1x1024.Idx → Elt Ideal .f32 := fun i => Spec.scl (Spec.cmax D (i 0).val (i 2).val)

variable {T : Fin 2 → Fin 2 → FVec Ideal S128x128 .f32} {S : Fin 2 → FVec Ideal S128x256 .f32} {j : ℕ}

/-- A square's formulas are the block's at the square's place. -/
theorem sq_codes {i c : ℕ} (hi : i < 256) (hc : c < 256) :
    Spec.codes (sqD arg2 arg3 X2 X3 k j) i c = Spec.codes (blkD arg2 arg3 X2 X3) (256 * k.val + i) (256 * j + c) := by
  rw [Spec.codes_shift (D := blkD arg2 arg3 X2 X3) (a := 256 * k.val) (b := 2 * j) (R := 256) (C := 256) (fun i c _ _ => by unfold sqD; congr 1; omega) (by omega) hi hc]
  congr 1; omega

theorem sq_codesT {i c : ℕ} (hi : i < 256) (hc : c < 256) :
    Spec.codesT (sqD arg2 arg3 X2 X3 k j) i c = Spec.codesT (blkD arg2 arg3 X2 X3) (256 * k.val + i) (256 * j + c) := by
  rw [Spec.codesT_shift (D := blkD arg2 arg3 X2 X3) (a := 2 * k.val) (b := 256 * j) (R := 256) (C := 256) (fun i c _ _ => by unfold sqD; congr 1; omega) (by omega) hi hc]
  congr 1; omega

theorem sq_rmax {i q : ℕ} (hi : i < 256) (hq : q < 2) :
    Spec.rmax (sqD arg2 arg3 X2 X3 k j) i q = Spec.rmax (blkD arg2 arg3 X2 X3) (256 * k.val + i) (2 * j + q) :=
  Spec.rmax_shift (D := blkD arg2 arg3 X2 X3) (a := 256 * k.val) (b := 2 * j) (R := 256) (C := 256) (fun i c _ _ => by unfold sqD; congr 1; omega) hi (by omega)

theorem sq_cmax {p c : ℕ} (hp : p < 2) (hc : c < 256) :
    Spec.cmax (sqD arg2 arg3 X2 X3 k j) p c = Spec.cmax (blkD arg2 arg3 X2 X3) (2 * k.val + p) (256 * j + c) :=
  Spec.cmax_shift (D := blkD arg2 arg3 X2 X3) (a := 2 * k.val) (b := 256 * j) (R := 256) (C := 256) (fun i c _ _ => by unfold sqD; congr 1; omega) (by omega) hc

theorem piece4_0 (hT : Tiles T (sqD arg2 arg3 X2 X3 k j)) (hS : Slabs S (sqD arg2 arg3 X2 X3 k j)) {off : Fin 2 → ℕ}
    (e : off = ![256 * k.val + 128 * (0 : Fin 2).val, 256 * j]) (inb) (x : (Rect.unit (s := S1024x1024) off S128x256.size inb).shape.Idx) :
    rowT0 (S 0) (factors T) x = G4 (blkD arg2 arg3 X2 X3) ((Rect.unit (s := S1024x1024) off S128x256.size inb).emb x) := by
  unfold G4
  rw [unit_emb_val, unit_emb_val]
  subst e
  change S128x256.Idx at x
  idx_vars x
  rw [codes0_at hT hS, sq_codes _ _ _ _ _ (by omega) (by omega)]
  rfl

theorem piece4_1 (hT : Tiles T (sqD arg2 arg3 X2 X3 k j)) (hS : Slabs S (sqD arg2 arg3 X2 X3 k j)) {off : Fin 2 → ℕ}
    (e : off = ![256 * k.val + 128 * (1 : Fin 2).val, 256 * j]) (inb) (x : (Rect.unit (s := S1024x1024) off S128x256.size inb).shape.Idx) :
    rowT1 (S 1) (factors T) x = G4 (blkD arg2 arg3 X2 X3) ((Rect.unit (s := S1024x1024) off S128x256.size inb).emb x) := by
  unfold G4
  rw [unit_emb_val, unit_emb_val]
  subst e
  change S128x256.Idx at x
  idx_vars x
  rw [codes1_at hT hS, sq_codes _ _ _ _ _ (by omega) (by omega), ← Nat.add_assoc]
  rfl

theorem piece6 (hT : Tiles T (sqD arg2 arg3 X2 X3 k j)) (hS : Slabs S (sqD arg2 arg3 X2 X3 k j)) {off : Fin 2 → ℕ}
    (e : off = ![256 * j, 256 * k.val]) (inb) (x : (Rect.unit (s := S1024x1024) off S256x256.size inb).shape.Idx) :
    codesTT T S x = G6 (blkD arg2 arg3 X2 X3) ((Rect.unit (s := S1024x1024) off S256x256.size inb).emb x) := by
  unfold G6
  rw [unit_emb_val, unit_emb_val]
  subst e
  change S256x256.Idx at x
  idx_vars x
  rw [codesTT_at hT hS, sq_codesT _ _ _ _ _ (by omega) (by omega)]
  rfl

theorem piece9 (hT : Tiles T (sqD arg2 arg3 X2 X3 k j)) (h t : Fin 2) {off : Fin 3 → ℕ}
    (e : off = ![2 * k.val + t.val, 0, 256 * j + 128 * h.val]) (inb) (x : (Rect.unit (s := S8x1x1024) off S1x1x128.size inb).shape.Idx) :
    stT (T h t) x = G9 (blkD arg2 arg3 X2 X3) ((Rect.unit (s := S8x1x1024) off S1x1x128.size inb).emb x) := by
  unfold G9
  rw [unit_emb_val, unit_emb_val]
  subst e
  change S1x1x128.Idx at x
  idx_vars x
  rw [stT_at hT, sq_cmax _ _ _ _ _ (by omega) (by omega)]
  simp
  congr 2
  omega

/-- The row scales of the four squares, stacked. -/
theorem piece5 {r : Fin 8 → FVec Ideal S1x256 .f32}
    (hr : ∀ (q : Fin 8) (p : Fin 256), r q (ix2 0 p) = Spec.scl (Spec.rmax (blkD arg2 arg3 X2 X3) (256 * k.val + p.val) q.val))
    {off : Fin 2 → ℕ} (e : off = ![0, 256 * k.val]) (inb) (x : (Rect.unit (s := S8x1024) off S8x256.size inb).shape.Idx) :
    stackT r x = G5 (blkD arg2 arg3 X2 X3) ((Rect.unit (s := S8x1024) off S8x256.size inb).emb x) := by
  unfold G5
  rw [unit_emb_val, unit_emb_val]
  subst e
  change S8x256.Idx at x
  idx_vars x
  rw [stackT_at, hr]
  simp

/-- The eight rows of scales. -/
def rows : Fin 8 → FVec Ideal S1x256 .f32
  | 0 => rsT (T0 arg2 arg3 X2 X3 k) 0 | 1 => rsT (T0 arg2 arg3 X2 X3 k) 1
  | 2 => rsT (T1 arg2 arg3 X2 X3 k) 0 | 3 => rsT (T1 arg2 arg3 X2 X3 k) 1
  | 4 => rsT (T2 arg2 arg3 X2 X3 k) 0 | 5 => rsT (T2 arg2 arg3 X2 X3 k) 1
  | 6 => rsT (T3 arg2 arg3 X2 X3 k) 0 | 7 => rsT (T3 arg2 arg3 X2 X3 k) 1

theorem row_scales (hT : Tiles T (sqD arg2 arg3 X2 X3 k j)) (h : Fin 2) (p : Fin 256) :
    rsT T h (ix2 0 p) = Spec.scl (Spec.rmax (blkD arg2 arg3 X2 X3) (256 * k.val + p.val) (2 * j + h.val)) := by
  rw [rsT_at hT, sq_rmax _ _ _ _ _ (by omega) (by omega)]

theorem rows_at (q : Fin 8) (p : Fin 256) :
    rows arg2 arg3 X2 X3 k q (ix2 0 p) = Spec.scl (Spec.rmax (blkD arg2 arg3 X2 X3) (256 * k.val + p.val) q.val) := by
  match q with
  | 0 => exact row_scales arg2 arg3 X2 X3 k (T0_tiles arg2 arg3 X2 X3 k) 0 p
  | 1 => exact row_scales arg2 arg3 X2 X3 k (T0_tiles arg2 arg3 X2 X3 k) 1 p
  | 2 => exact row_scales arg2 arg3 X2 X3 k (T1_tiles arg2 arg3 X2 X3 k) 0 p
  | 3 => exact row_scales arg2 arg3 X2 X3 k (T1_tiles arg2 arg3 X2 X3 k) 1 p
  | 4 => exact row_scales arg2 arg3 X2 X3 k (T2_tiles arg2 arg3 X2 X3 k) 0 p
  | 5 => exact row_scales arg2 arg3 X2 X3 k (T2_tiles arg2 arg3 X2 X3 k) 1 p
  | 6 => exact row_scales arg2 arg3 X2 X3 k (T3_tiles arg2 arg3 X2 X3 k) 0 p
  | 7 => exact row_scales arg2 arg3 X2 X3 k (T3_tiles arg2 arg3 X2 X3 k) 1 p

end Cert.KernelIdeal.Hand
end
-- ==== Proof.Trip.lean ====
module

public import proofs.«01_k».proof.Proof.Pieces

/-! What one trip of the loop stores, buffer by buffer. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (𝒱 : Variants) (c : Dev nD) (bd : Option 𝒱.V) (i : grid0.Coords)
  (arg2 : Memref sig .tc .vmem S1024x1024 .bf16) (harg2 : arg2.IsWhole)
  (arg3 : Memref sig .tc .vmem S1024x512 .bf16) (harg3 : arg3.IsWhole)
  (arg4 : Memref sig .tc .vmem S1024x1024 .fp8e4m3) (harg4 : arg4.IsWhole)
  (arg5 : Memref sig .tc .vmem S8x1024 .f32) (harg5 : arg5.IsWhole)
  (arg6 : Memref sig .tc .vmem S1024x1024 .fp8e4m3) (harg6 : arg6.IsWhole)
  (arg7 : Memref sig .tc .vmem S8x1024 .f32) (harg7 : arg7.IsWhole)
  (arg8 : Memref sig .tc .vmem S256x1024 .f32) (harg8 : arg8.IsWhole)
  (arg9 : Memref sig .tc .vmem S8x1x1024 .f32) (harg9 : arg9.IsWhole)
  (X2 : BufTy.Contents (Elt Ideal) arg2.view.ty) (X3 : BufTy.Contents (Elt Ideal) arg3.view.ty)
  (k : Fin k0_t1_loop.trips)
  (f4 : BufTy.Contents (Elt Ideal) arg4.view.ty) (f5 : BufTy.Contents (Elt Ideal) arg5.view.ty)
  (f6 : BufTy.Contents (Elt Ideal) arg6.view.ty) (f8 : BufTy.Contents (Elt Ideal) arg8.view.ty)
  (f9 : BufTy.Contents (Elt Ideal) arg9.view.ty)

/-- The row codes of a trip. -/
theorem trip4_good :
    Good (G4 (blkD arg2 arg3 X2 X3)) ((trip_k0_t1 (F := Ideal) 𝒱 c bd i arg2 harg2 arg3 harg3 arg4 harg4 arg5 harg5 arg6 harg6 arg7 harg7 arg8 harg8 arg9 harg9 X2 X3 k).1 f4 f5 f6 f8 f9) := by
  unfold trip_k0_t1
  dsimp only
  refine (good_cons ?_ (good_cons ?_ (good_cons ?_ (good_cons ?_ (good_cons ?_ (good_cons ?_ (good_cons ?_ (good_cons ?_ (good_nil _)))))))))
  · exact piece4_1 arg2 arg3 X2 X3 k (T3_tiles arg2 arg3 X2 X3 k) (S3_slabs arg2 arg3 arg8 X2 X3 k) (k0_off27_eq k 1) (k0_off27_inb k 1)
  · exact piece4_0 arg2 arg3 X2 X3 k (T3_tiles arg2 arg3 X2 X3 k) (S3_slabs arg2 arg3 arg8 X2 X3 k) (k0_off27_eq k 0) (k0_off27_inb k 0)
  · exact piece4_1 arg2 arg3 X2 X3 k (T2_tiles arg2 arg3 X2 X3 k) (S2_slabs arg2 arg3 arg8 X2 X3 k) (k0_off20_eq k 1) (k0_off20_inb k 1)
  · exact piece4_0 arg2 arg3 X2 X3 k (T2_tiles arg2 arg3 X2 X3 k) (S2_slabs arg2 arg3 arg8 X2 X3 k) (k0_off20_eq k 0) (k0_off20_inb k 0)
  · exact piece4_1 arg2 arg3 X2 X3 k (T1_tiles arg2 arg3 X2 X3 k) (S1_slabs arg2 arg3 arg8 X2 X3 k) (k0_off13_eq k 1) (k0_off13_inb k 1)
  · exact piece4_0 arg2 arg3 X2 X3 k (T1_tiles arg2 arg3 X2 X3 k) (S1_slabs arg2 arg3 arg8 X2 X3 k) (k0_off13_eq k 0) (k0_off13_inb k 0)
  · exact piece4_1 arg2 arg3 X2 X3 k (T0_tiles arg2 arg3 X2 X3 k) (S0_slabs arg2 arg3 arg8 X2 X3 k) (k0_off6_eq k 1) (k0_off6_inb k 1)
  · exact piece4_0 arg2 arg3 X2 X3 k (T0_tiles arg2 arg3 X2 X3 k) (S0_slabs arg2 arg3 arg8 X2 X3 k) (k0_off6_eq k 0) (k0_off6_inb k 0)

/-- The row scales of a trip. -/
theorem trip5_good :
    Good (G5 (blkD arg2 arg3 X2 X3)) ((trip_k0_t1 (F := Ideal) 𝒱 c bd i arg2 harg2 arg3 harg3 arg4 harg4 arg5 harg5 arg6 harg6 arg7 harg7 arg8 harg8 arg9 harg9 X2 X3 k).2.1 f4 f5 f6 f8 f9) := by
  unfold trip_k0_t1
  dsimp only
  refine (good_cons ?_ (good_nil _))
  · exact piece5 arg2 arg3 X2 X3 k (rows_at arg2 arg3 X2 X3 k) (k0_off29_eq k) (k0_off29_inb k)

/-- The column codes of a trip. -/
theorem trip6_good :
    Good (G6 (blkD arg2 arg3 X2 X3)) ((trip_k0_t1 (F := Ideal) 𝒱 c bd i arg2 harg2 arg3 harg3 arg4 harg4 arg5 harg5 arg6 harg6 arg7 harg7 arg8 harg8 arg9 harg9 X2 X3 k).2.2.1 f4 f5 f6 f8 f9) := by
  unfold trip_k0_t1
  dsimp only
  refine (good_cons ?_ (good_cons ?_ (good_cons ?_ (good_cons ?_ (good_nil _)))))
  · exact piece6 arg2 arg3 X2 X3 k (T3_tiles arg2 arg3 X2 X3 k) (S3_slabs arg2 arg3 arg8 X2 X3 k) (k0_off28_eq k) (k0_off28_inb k)
  · exact piece6 arg2 arg3 X2 X3 k (T2_tiles arg2 arg3 X2 X3 k) (S2_slabs arg2 arg3 arg8 X2 X3 k) (k0_off21_eq k) (k0_off21_inb k)
  · exact piece6 arg2 arg3 X2 X3 k (T1_tiles arg2 arg3 X2 X3 k) (S1_slabs arg2 arg3 arg8 X2 X3 k) (k0_off14_eq k) (k0_off14_inb k)
  · exact piece6 arg2 arg3 X2 X3 k (T0_tiles arg2 arg3 X2 X3 k) (S0_slabs arg2 arg3 arg8 X2 X3 k) (k0_off7_eq k) (k0_off7_inb k)

/-- The column scales of a trip. -/
theorem trip9_good :
    Good (G9 (blkD arg2 arg3 X2 X3)) ((trip_k0_t1 (F := Ideal) 𝒱 c bd i arg2 harg2 arg3 harg3 arg4 harg4 arg5 harg5 arg6 harg6 arg7 harg7 arg8 harg8 arg9 harg9 X2 X3 k).2.2.2.2.1 f4 f5 f6 f8 f9) := by
  unfold trip_k0_t1
  dsimp only
  refine (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_nil _)))))))))))))))))
  · exact piece9 arg2 arg3 X2 X3 k (T3_tiles arg2 arg3 X2 X3 k) 1 1 (k0_off26_eq k 1) (k0_off26_inb k 1)
  · exact piece9 arg2 arg3 X2 X3 k (T3_tiles arg2 arg3 X2 X3 k) 0 1 (k0_off25_eq k 1) (k0_off25_inb k 1)
  · exact piece9 arg2 arg3 X2 X3 k (T3_tiles arg2 arg3 X2 X3 k) 1 0 (k0_off26_eq k 0) (k0_off26_inb k 0)
  · exact piece9 arg2 arg3 X2 X3 k (T3_tiles arg2 arg3 X2 X3 k) 0 0 (k0_off25_eq k 0) (k0_off25_inb k 0)
  · exact piece9 arg2 arg3 X2 X3 k (T2_tiles arg2 arg3 X2 X3 k) 1 1 (k0_off19_eq k 1) (k0_off19_inb k 1)
  · exact piece9 arg2 arg3 X2 X3 k (T2_tiles arg2 arg3 X2 X3 k) 0 1 (k0_off18_eq k 1) (k0_off18_inb k 1)
  · exact piece9 arg2 arg3 X2 X3 k (T2_tiles arg2 arg3 X2 X3 k) 1 0 (k0_off19_eq k 0) (k0_off19_inb k 0)
  · exact piece9 arg2 arg3 X2 X3 k (T2_tiles arg2 arg3 X2 X3 k) 0 0 (k0_off18_eq k 0) (k0_off18_inb k 0)
  · exact piece9 arg2 arg3 X2 X3 k (T1_tiles arg2 arg3 X2 X3 k) 1 1 (k0_off12_eq k 1) (k0_off12_inb k 1)
  · exact piece9 arg2 arg3 X2 X3 k (T1_tiles arg2 arg3 X2 X3 k) 0 1 (k0_off11_eq k 1) (k0_off11_inb k 1)
  · exact piece9 arg2 arg3 X2 X3 k (T1_tiles arg2 arg3 X2 X3 k) 1 0 (k0_off12_eq k 0) (k0_off12_inb k 0)
  · exact piece9 arg2 arg3 X2 X3 k (T1_tiles arg2 arg3 X2 X3 k) 0 0 (k0_off11_eq k 0) (k0_off11_inb k 0)
  · exact piece9 arg2 arg3 X2 X3 k (T0_tiles arg2 arg3 X2 X3 k) 1 1 (k0_off5_eq k 1) (k0_off5_inb k 1)
  · exact piece9 arg2 arg3 X2 X3 k (T0_tiles arg2 arg3 X2 X3 k) 0 1 (k0_off4_eq k 1) (k0_off4_inb k 1)
  · exact piece9 arg2 arg3 X2 X3 k (T0_tiles arg2 arg3 X2 X3 k) 1 0 (k0_off5_eq k 0) (k0_off5_inb k 0)
  · exact piece9 arg2 arg3 X2 X3 k (T0_tiles arg2 arg3 X2 X3 k) 0 0 (k0_off4_eq k 0) (k0_off4_inb k 0)

end Cert.KernelIdeal.Hand
end
-- ==== Proof.Cover.lean ====
module

public import proofs.«01_k».proof.Proof.Trip

/-! The pieces of all the trips: they cover the block, and store its formulas. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The first piece is hit under a condition, the others otherwise. -/
theorem hit_or {s : Shape} {e : EltTy} {p : View.Piece (Elt Ideal) s e} {L : List (View.Piece (Elt Ideal) s e)} {y : s.Idx}
    (P : Prop) (h : P → y ∈ p.1.set) (hL : ¬ P → ∃ q ∈ L, y ∈ q.1.set) : ∃ q ∈ p :: L, y ∈ q.1.set := by
  by_cases c : P
  · exact ⟨_, .head _, h c⟩
  · obtain ⟨q, hq, hy⟩ := hL c
    exact ⟨q, .tail _ hq, hy⟩

theorem hit2 {R C H W : ℕ} {off : Fin 2 → ℕ} {y : (⟨2, ![R, C]⟩ : Shape).Idx} (a b : ℕ) (e : off = ![a, b]) (inb)
    (h : (a ≤ (y 0).val ∧ (y 0).val < a + H) ∧ (b ≤ (y 1).val ∧ (y 1).val < b + W)) :
    y ∈ (Rect.unit (s := ⟨2, ![R, C]⟩) off ![H, W] inb).set := by
  subst e
  rw [Rect.mem_set_unit]
  intro x
  match x with
  | 0 => exact h.1
  | 1 => exact h.2

theorem hit3 {R C W : ℕ} {off : Fin 3 → ℕ} {y : (⟨3, ![R, 1, C]⟩ : Shape).Idx} (a b : ℕ) (e : off = ![a, 0, b]) (inb)
    (h : (y 0).val = a ∧ (b ≤ (y 2).val ∧ (y 2).val < b + W)) :
    y ∈ (Rect.unit (s := ⟨3, ![R, 1, C]⟩) off ![1, 1, W] inb).set := by
  subst e
  rw [Rect.mem_set_unit]
  intro x
  match x with
  | 0 => exact ⟨h.1.ge, h.1.trans_lt (Nat.lt_succ_self _)⟩
  | 1 => exact ⟨Nat.zero_le _, (y 1).isLt⟩
  | 2 => exact h.2

/-- Lists that grow by good pieces are good, and cover what the parts cover. -/
theorem grow {s : Shape} {e : EltTy} (G : s.Idx → Elt Ideal e) (f : s.Idx → ℕ) (L : ℕ → List (View.Piece (Elt Ideal) s e)) (h0 : L 0 = [])
    (n : ℕ) (hs : ∀ k, k < n → ∃ l, L (k + 1) = l ++ L k ∧ Good G l ∧ ∀ y, f y = k → ∃ p ∈ l, y ∈ p.1.set) :
    Good G (L n) ∧ ∀ y, f y < n → ∃ p ∈ L n, y ∈ p.1.set := by
  induction n with
  | zero => rw [h0]; exact ⟨good_nil _, fun y h => absurd h (Nat.not_lt_zero _)⟩
  | succ n ih =>
    obtain ⟨hg, hc⟩ := ih fun k hk => hs k (Nat.lt_succ_of_lt hk)
    obtain ⟨l, hl, hlg, hlc⟩ := hs n (Nat.lt_succ_self n)
    rw [hl]
    constructor
    · intro p hp
      rcases List.mem_append.mp hp with h | h
      · exact hlg p h
      · exact hg p h
    · intro y hy
      by_cases c : f y = n
      · obtain ⟨p, hp, hm⟩ := hlc y c
        exact ⟨p, List.mem_append_left _ hp, hm⟩
      · obtain ⟨p, hp, hm⟩ := hc y (by omega)
        exact ⟨p, List.mem_append_right _ hp, hm⟩

theorem trips_eq : k0_t1_loop.trips = 4 := by decide +kernel

variable (𝒱 : Variants) (c : Dev nD) (bd : Option 𝒱.V) (i : grid0.Coords)
  (arg2 : Memref sig .tc .vmem S1024x1024 .bf16) (harg2 : arg2.IsWhole)
  (arg3 : Memref sig .tc .vmem S1024x512 .bf16) (harg3 : arg3.IsWhole)
  (arg4 : Memref sig .tc .vmem S1024x1024 .fp8e4m3) (harg4 : arg4.IsWhole)
  (arg5 : Memref sig .tc .vmem S8x1024 .f32) (harg5 : arg5.IsWhole)
  (arg6 : Memref sig .tc .vmem S1024x1024 .fp8e4m3) (harg6 : arg6.IsWhole)
  (arg7 : Memref sig .tc .vmem S8x1024 .f32) (harg7 : arg7.IsWhole)
  (arg8 : Memref sig .tc .vmem S256x1024 .f32) (harg8 : arg8.IsWhole)
  (arg9 : Memref sig .tc .vmem S8x1x1024 .f32) (harg9 : arg9.IsWhole)
  (X2 : BufTy.Contents (Elt Ideal) arg2.view.ty) (X3 : BufTy.Contents (Elt Ideal) arg3.view.ty)
  (f4 : BufTy.Contents (Elt Ideal) arg4.view.ty) (f5 : BufTy.Contents (Elt Ideal) arg5.view.ty)
  (f6 : BufTy.Contents (Elt Ideal) arg6.view.ty) (f8 : BufTy.Contents (Elt Ideal) arg8.view.ty)
  (f9 : BufTy.Contents (Elt Ideal) arg9.view.ty)

theorem trip4_hit (k : Fin k0_t1_loop.trips) (y : S1024x1024.Idx) (hy : (y 0).val / 256 = k.val) :
    ∃ p ∈ (trip_k0_t1 (F := Ideal) 𝒱 c bd i arg2 harg2 arg3 harg3 arg4 harg4 arg5 harg5 arg6 harg6 arg7 harg7 arg8 harg8 arg9 harg9 X2 X3 k).1 f4 f5 f6 f8 f9, y ∈ p.1.set := by
  have h0 := (y 0).isLt
  have h1 := (y 1).isLt

  simp only [S1024x1024, Shape.Coord, Matrix.cons_val_zero, Matrix.cons_val_one] at h0 h1
  unfold trip_k0_t1
  dsimp only
  refine hit_or (256 * k.val + 128 ≤ (y 0).val ∧ 768 ≤ (y 1).val) (fun h => hit2 (256 * k.val + 128) 768 (k0_off27_eq k 1) (k0_off27_inb k 1) (by omega)) fun n0 => ?_
  refine hit_or (256 * k.val ≤ (y 0).val ∧ 768 ≤ (y 1).val) (fun h => hit2 (256 * k.val) 768 (k0_off27_eq k 0) (k0_off27_inb k 0) (by omega)) fun n1 => ?_
  refine hit_or (256 * k.val + 128 ≤ (y 0).val ∧ 512 ≤ (y 1).val) (fun h => hit2 (256 * k.val + 128) 512 (k0_off20_eq k 1) (k0_off20_inb k 1) (by omega)) fun n2 => ?_
  refine hit_or (256 * k.val ≤ (y 0).val ∧ 512 ≤ (y 1).val) (fun h => hit2 (256 * k.val) 512 (k0_off20_eq k 0) (k0_off20_inb k 0) (by omega)) fun n3 => ?_
  refine hit_or (256 * k.val + 128 ≤ (y 0).val ∧ 256 ≤ (y 1).val) (fun h => hit2 (256 * k.val + 128) 256 (k0_off13_eq k 1) (k0_off13_inb k 1) (by omega)) fun n4 => ?_
  refine hit_or (256 * k.val ≤ (y 0).val ∧ 256 ≤ (y 1).val) (fun h => hit2 (256 * k.val) 256 (k0_off13_eq k 0) (k0_off13_inb k 0) (by omega)) fun n5 => ?_
  refine hit_or (256 * k.val + 128 ≤ (y 0).val ∧ 0 ≤ (y 1).val) (fun h => hit2 (256 * k.val + 128) 0 (k0_off6_eq k 1) (k0_off6_inb k 1) (by omega)) fun n6 => ?_
  refine hit_or (256 * k.val ≤ (y 0).val ∧ 0 ≤ (y 1).val) (fun h => hit2 (256 * k.val) 0 (k0_off6_eq k 0) (k0_off6_inb k 0) (by omega)) fun n7 => ?_
  exfalso; omega

/-- All the trips. -/
theorem all4 : Good (G4 (blkD arg2 arg3 X2 X3)) (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).1
    ∧ ∀ y : S1024x1024.Idx, ∃ p ∈ (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).1, y ∈ p.1.set := by
  obtain ⟨hg, hc⟩ := grow (G4 (blkD arg2 arg3 X2 X3)) (fun y => (y 0).val / 256)
    (fun n => (pb_k0_t1 (F := Ideal) 𝒱 c bd i arg2 harg2 arg3 harg3 arg4 harg4 arg5 harg5 arg6 harg6 arg7 harg7 arg8 harg8 arg9 harg9 X2 X3 f4 f5 f6 f8 f9 n).1) rfl k0_t1_loop.trips fun n hn =>
      ⟨_, congrArg (·.1) (pb_k0_t1_succ (F := Ideal) 𝒱 c bd i arg2 harg2 arg3 harg3 arg4 harg4 arg5 harg5 arg6 harg6 arg7 harg7 arg8 harg8 arg9 harg9 X2 X3 f4 f5 f6 f8 f9 ⟨n, hn⟩),
        trip4_good 𝒱 c bd i arg2 harg2 arg3 harg3 arg4 harg4 arg5 harg5 arg6 harg6 arg7 harg7 arg8 harg8 arg9 harg9 X2 X3 ⟨n, hn⟩ _ _ _ _ _, fun y hy => trip4_hit 𝒱 c bd i arg2 harg2 arg3 harg3 arg4 harg4 arg5 harg5 arg6 harg6 arg7 harg7 arg8 harg8 arg9 harg9 X2 X3 _ _ _ _ _ ⟨n, hn⟩ y hy⟩
  refine ⟨hg, fun y => hc y ?_⟩
  have h0 := (y 0).isLt
  simp only [S1024x1024, Shape.Coord, Matrix.cons_val_zero, Matrix.cons_val_one] at h0
  rw [trips_eq]
  show (y 0).val / 256 < 4
  omega

theorem trip5_hit (k : Fin k0_t1_loop.trips) (y : S8x1024.Idx) (hy : (y 1).val / 256 = k.val) :
    ∃ p ∈ (trip_k0_t1 (F := Ideal) 𝒱 c bd i arg2 harg2 arg3 harg3 arg4 harg4 arg5 harg5 arg6 harg6 arg7 harg7 arg8 harg8 arg9 harg9 X2 X3 k).2.1 f4 f5 f6 f8 f9, y ∈ p.1.set := by
  have h0 := (y 0).isLt
  have h1 := (y 1).isLt

  simp only [S8x1024, Shape.Coord, Matrix.cons_val_zero, Matrix.cons_val_one] at h0 h1
  unfold trip_k0_t1
  dsimp only
  refine hit_or ((y 0).val < 8) (fun h => hit2 0 (256 * k.val) (k0_off29_eq k) (k0_off29_inb k) (by omega)) fun n0 => ?_
  exfalso; omega

/-- All the trips. -/
theorem all5 : Good (G5 (blkD arg2 arg3 X2 X3)) (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).2.1
    ∧ ∀ y : S8x1024.Idx, ∃ p ∈ (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).2.1, y ∈ p.1.set := by
  obtain ⟨hg, hc⟩ := grow (G5 (blkD arg2 arg3 X2 X3)) (fun y => (y 1).val / 256)
    (fun n => (pb_k0_t1 (F := Ideal) 𝒱 c bd i arg2 harg2 arg3 harg3 arg4 harg4 arg5 harg5 arg6 harg6 arg7 harg7 arg8 harg8 arg9 harg9 X2 X3 f4 f5 f6 f8 f9 n).2.1) rfl k0_t1_loop.trips fun n hn =>
      ⟨_, congrArg (·.2.1) (pb_k0_t1_succ (F := Ideal) 𝒱 c bd i arg2 harg2 arg3 harg3 arg4 harg4 arg5 harg5 arg6 harg6 arg7 harg7 arg8 harg8 arg9 harg9 X2 X3 f4 f5 f6 f8 f9 ⟨n, hn⟩),
        trip5_good 𝒱 c bd i arg2 harg2 arg3 harg3 arg4 harg4 arg5 harg5 arg6 harg6 arg7 harg7 arg8 harg8 arg9 harg9 X2 X3 ⟨n, hn⟩ _ _ _ _ _, fun y hy => trip5_hit 𝒱 c bd i arg2 harg2 arg3 harg3 arg4 harg4 arg5 harg5 arg6 harg6 arg7 harg7 arg8 harg8 arg9 harg9 X2 X3 _ _ _ _ _ ⟨n, hn⟩ y hy⟩
  refine ⟨hg, fun y => hc y ?_⟩
  have h0 := (y 1).isLt
  simp only [S8x1024, Shape.Coord, Matrix.cons_val_zero, Matrix.cons_val_one] at h0
  rw [trips_eq]
  show (y 1).val / 256 < 4
  omega

theorem trip6_hit (k : Fin k0_t1_loop.trips) (y : S1024x1024.Idx) (hy : (y 1).val / 256 = k.val) :
    ∃ p ∈ (trip_k0_t1 (F := Ideal) 𝒱 c bd i arg2 harg2 arg3 harg3 arg4 harg4 arg5 harg5 arg6 harg6 arg7 harg7 arg8 harg8 arg9 harg9 X2 X3 k).2.2.1 f4 f5 f6 f8 f9, y ∈ p.1.set := by
  have h0 := (y 0).isLt
  have h1 := (y 1).isLt

  simp only [S1024x1024, Shape.Coord, Matrix.cons_val_zero, Matrix.cons_val_one] at h0 h1
  unfold trip_k0_t1
  dsimp only
  refine hit_or (768 ≤ (y 0).val) (fun h => hit2 768 (256 * k.val) (k0_off28_eq k) (k0_off28_inb k) (by omega)) fun n0 => ?_
  refine hit_or (512 ≤ (y 0).val) (fun h => hit2 512 (256 * k.val) (k0_off21_eq k) (k0_off21_inb k) (by omega)) fun n1 => ?_
  refine hit_or (256 ≤ (y 0).val) (fun h => hit2 256 (256 * k.val) (k0_off14_eq k) (k0_off14_inb k) (by omega)) fun n2 => ?_
  refine hit_or (0 ≤ (y 0).val) (fun h => hit2 0 (256 * k.val) (k0_off7_eq k) (k0_off7_inb k) (by omega)) fun n3 => ?_
  exfalso; omega

/-- All the trips. -/
theorem all6 : Good (G6 (blkD arg2 arg3 X2 X3)) (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).2.2.1
    ∧ ∀ y : S1024x1024.Idx, ∃ p ∈ (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).2.2.1, y ∈ p.1.set := by
  obtain ⟨hg, hc⟩ := grow (G6 (blkD arg2 arg3 X2 X3)) (fun y => (y 1).val / 256)
    (fun n => (pb_k0_t1 (F := Ideal) 𝒱 c bd i arg2 harg2 arg3 harg3 arg4 harg4 arg5 harg5 arg6 harg6 arg7 harg7 arg8 harg8 arg9 harg9 X2 X3 f4 f5 f6 f8 f9 n).2.2.1) rfl k0_t1_loop.trips fun n hn =>
      ⟨_, congrArg (·.2.2.1) (pb_k0_t1_succ (F := Ideal) 𝒱 c bd i arg2 harg2 arg3 harg3 arg4 harg4 arg5 harg5 arg6 harg6 arg7 harg7 arg8 harg8 arg9 harg9 X2 X3 f4 f5 f6 f8 f9 ⟨n, hn⟩),
        trip6_good 𝒱 c bd i arg2 harg2 arg3 harg3 arg4 harg4 arg5 harg5 arg6 harg6 arg7 harg7 arg8 harg8 arg9 harg9 X2 X3 ⟨n, hn⟩ _ _ _ _ _, fun y hy => trip6_hit 𝒱 c bd i arg2 harg2 arg3 harg3 arg4 harg4 arg5 harg5 arg6 harg6 arg7 harg7 arg8 harg8 arg9 harg9 X2 X3 _ _ _ _ _ ⟨n, hn⟩ y hy⟩
  refine ⟨hg, fun y => hc y ?_⟩
  have h0 := (y 1).isLt
  simp only [S1024x1024, Shape.Coord, Matrix.cons_val_zero, Matrix.cons_val_one] at h0
  rw [trips_eq]
  show (y 1).val / 256 < 4
  omega

theorem trip9_hit (k : Fin k0_t1_loop.trips) (y : S8x1x1024.Idx) (hy : (y 0).val / 2 = k.val) :
    ∃ p ∈ (trip_k0_t1 (F := Ideal) 𝒱 c bd i arg2 harg2 arg3 harg3 arg4 harg4 arg5 harg5 arg6 harg6 arg7 harg7 arg8 harg8 arg9 harg9 X2 X3 k).2.2.2.2.1 f4 f5 f6 f8 f9, y ∈ p.1.set := by
  have h0 := (y 0).isLt
  have h1 := (y 1).isLt
  have h2 := (y 2).isLt
  simp only [S8x1x1024, Shape.Coord, Matrix.cons_val_zero, Matrix.cons_val_one, Matrix.cons_val_two, Matrix.tail_cons, Matrix.head_cons] at h0 h1 h2
  unfold trip_k0_t1
  dsimp only
  refine hit_or (2 * k.val + 1 = (y 0).val ∧ 896 ≤ (y 2).val) (fun h => hit3 (2 * k.val + 1) 896 (k0_off26_eq k 1) (k0_off26_inb k 1) (by omega)) fun n0 => ?_
  refine hit_or (2 * k.val + 1 = (y 0).val ∧ 768 ≤ (y 2).val) (fun h => hit3 (2 * k.val + 1) 768 (k0_off25_eq k 1) (k0_off25_inb k 1) (by omega)) fun n1 => ?_
  refine hit_or (2 * k.val = (y 0).val ∧ 896 ≤ (y 2).val) (fun h => hit3 (2 * k.val) 896 (k0_off26_eq k 0) (k0_off26_inb k 0) (by omega)) fun n2 => ?_
  refine hit_or (2 * k.val = (y 0).val ∧ 768 ≤ (y 2).val) (fun h => hit3 (2 * k.val) 768 (k0_off25_eq k 0) (k0_off25_inb k 0) (by omega)) fun n3 => ?_
  refine hit_or (2 * k.val + 1 = (y 0).val ∧ 640 ≤ (y 2).val) (fun h => hit3 (2 * k.val + 1) 640 (k0_off19_eq k 1) (k0_off19_inb k 1) (by omega)) fun n4 => ?_
  refine hit_or (2 * k.val + 1 = (y 0).val ∧ 512 ≤ (y 2).val) (fun h => hit3 (2 * k.val + 1) 512 (k0_off18_eq k 1) (k0_off18_inb k 1) (by omega)) fun n5 => ?_
  refine hit_or (2 * k.val = (y 0).val ∧ 640 ≤ (y 2).val) (fun h => hit3 (2 * k.val) 640 (k0_off19_eq k 0) (k0_off19_inb k 0) (by omega)) fun n6 => ?_
  refine hit_or (2 * k.val = (y 0).val ∧ 512 ≤ (y 2).val) (fun h => hit3 (2 * k.val) 512 (k0_off18_eq k 0) (k0_off18_inb k 0) (by omega)) fun n7 => ?_
  refine hit_or (2 * k.val + 1 = (y 0).val ∧ 384 ≤ (y 2).val) (fun h => hit3 (2 * k.val + 1) 384 (k0_off12_eq k 1) (k0_off12_inb k 1) (by omega)) fun n8 => ?_
  refine hit_or (2 * k.val + 1 = (y 0).val ∧ 256 ≤ (y 2).val) (fun h => hit3 (2 * k.val + 1) 256 (k0_off11_eq k 1) (k0_off11_inb k 1) (by omega)) fun n9 => ?_
  refine hit_or (2 * k.val = (y 0).val ∧ 384 ≤ (y 2).val) (fun h => hit3 (2 * k.val) 384 (k0_off12_eq k 0) (k0_off12_inb k 0) (by omega)) fun n10 => ?_
  refine hit_or (2 * k.val = (y 0).val ∧ 256 ≤ (y 2).val) (fun h => hit3 (2 * k.val) 256 (k0_off11_eq k 0) (k0_off11_inb k 0) (by omega)) fun n11 => ?_
  refine hit_or (2 * k.val + 1 = (y 0).val ∧ 128 ≤ (y 2).val) (fun h => hit3 (2 * k.val + 1) 128 (k0_off5_eq k 1) (k0_off5_inb k 1) (by omega)) fun n12 => ?_
  refine hit_or (2 * k.val + 1 = (y 0).val ∧ 0 ≤ (y 2).val) (fun h => hit3 (2 * k.val + 1) 0 (k0_off4_eq k 1) (k0_off4_inb k 1) (by omega)) fun n13 => ?_
  refine hit_or (2 * k.val = (y 0).val ∧ 128 ≤ (y 2).val) (fun h => hit3 (2 * k.val) 128 (k0_off5_eq k 0) (k0_off5_inb k 0) (by omega)) fun n14 => ?_
  refine hit_or (2 * k.val = (y 0).val ∧ 0 ≤ (y 2).val) (fun h => hit3 (2 * k.val) 0 (k0_off4_eq k 0) (k0_off4_inb k 0) (by omega)) fun n15 => ?_
  exfalso; omega

/-- All the trips. -/
theorem all9 : Good (G9 (blkD arg2 arg3 X2 X3)) (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).2.2.2.2
    ∧ ∀ y : S8x1x1024.Idx, ∃ p ∈ (pb_k0_t1 (F := Ideal) 𝒱 c bd i arg2 harg2 arg3 harg3 arg4 harg4 arg5 harg5 arg6 harg6 arg7 harg7 arg8 harg8 arg9 harg9 X2 X3 f4 f5 f6 f8 f9 k0_t1_loop.trips).2.2.2.2, y ∈ p.1.set := by
  obtain ⟨hg, hc⟩ := grow (G9 (blkD arg2 arg3 X2 X3)) (fun y => (y 0).val / 2)
    (fun n => (pb_k0_t1 (F := Ideal) 𝒱 c bd i arg2 harg2 arg3 harg3 arg4 harg4 arg5 harg5 arg6 harg6 arg7 harg7 arg8 harg8 arg9 harg9 X2 X3 f4 f5 f6 f8 f9 n).2.2.2.2) rfl k0_t1_loop.trips fun n hn =>
      ⟨_, congrArg (·.2.2.2.2) (pb_k0_t1_succ (F := Ideal) 𝒱 c bd i arg2 harg2 arg3 harg3 arg4 harg4 arg5 harg5 arg6 harg6 arg7 harg7 arg8 harg8 arg9 harg9 X2 X3 f4 f5 f6 f8 f9 ⟨n, hn⟩),
        trip9_good 𝒱 c bd i arg2 harg2 arg3 harg3 arg4 harg4 arg5 harg5 arg6 harg6 arg7 harg7 arg8 harg8 arg9 harg9 X2 X3 ⟨n, hn⟩ _ _ _ _ _, fun y hy => trip9_hit 𝒱 c bd i arg2 harg2 arg3 harg3 arg4 harg4 arg5 harg5 arg6 harg6 arg7 harg7 arg8 harg8 arg9 harg9 X2 X3 _ _ _ _ _ ⟨n, hn⟩ y hy⟩
  refine ⟨hg, fun y => hc y ?_⟩
  have h0 := (y 0).isLt
  simp only [S8x1x1024, Shape.Coord, Matrix.cons_val_zero, Matrix.cons_val_one] at h0
  rw [trips_eq]
  show (y 0).val / 2 < 4
  omega

end Cert.KernelIdeal.Hand
end
-- ==== Proof.Run.lean ====
module

public import proofs.«01_k».proof.Proof.Cover

/-! One run of the kernel's body: what each output block holds after it. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A buffer written by good pieces that cover it reads as their function. -/
theorem read_good {s : Shape} {e : EltTy} {κ : Kind} {sp : Space} (v : View sig κ sp s e) (f : v.ty.Contents (Elt Ideal))
    {G : s.Idx → Elt Ideal e} {L : List (View.Piece (Elt Ideal) s e)} (h : Good G L ∧ ∀ y, ∃ p ∈ L, y ∈ p.1.set) :
    v.read (Elt Ideal) (v.writes (Elt Ideal) f L) = G :=
  funext fun y => View.read_writes_apply_of_pieces v f G L h.1 y (h.2 y)

/-- Dropping the middle axis of the second scratch gives the column scales. -/
theorem pay5_at (D : ℕ → ℕ → EReal) : k0_pay5 (F := Ideal) (G9 D) = G7 D := by
  funext y
  change S8x1024.Idx at y
  idx_vars y
  pointwise [k0_pay5]
  rfl

/-- A load of the whole second scratch is what it reads. -/
theorem readAt_whole (arg9 : Memref sig .tc .vmem S8x1x1024 .f32) (inb) (f : BufTy.Contents (Elt Ideal) arg9.view.ty) :
    View.readAt (Elt Ideal) arg9.view (Rect.unit (s := S8x1x1024) ![0, 0, 0] S8x1x1024.size inb).toLoadRect f = arg9.view.read (Elt Ideal) f := by
  funext y
  rw [View.readAt_apply]
  congr 1
  funext a
  fin_cases a <;> exact Fin.ext (by simp)

/-- A store of a whole block of column scales is good and covers it. -/
theorem whole7 (G : S8x1024.Idx → Elt Ideal .f32) :
    Good G [⟨Rect.unit (s := S8x1024) ![0, 0] S8x1024.size inb_S8x1024_S8x1024_0_0, G⟩]
      ∧ ∀ y, ∃ p ∈ ([⟨Rect.unit (s := S8x1024) ![0, 0] S8x1024.size inb_S8x1024_S8x1024_0_0, G⟩] : List (View.Piece (Elt Ideal) S8x1024 .f32)), y ∈ p.1.set := by
  have h : ∀ x : S8x1024.Idx, (Rect.unit (s := S8x1024) ![0, 0] S8x1024.size inb_S8x1024_S8x1024_0_0).emb x = x := fun x =>
    funext fun a => Fin.ext (by rw [unit_emb_val]; fin_cases a <;> exact Nat.zero_add _)
  refine ⟨good_cons (fun x => congrArg G (h x).symm) (good_nil _), fun y => ⟨_, List.mem_cons_self, ?_⟩⟩
  rw [← Rect.map_emb_univ, ← h y]
  exact Finset.mem_map_of_mem _ (Finset.mem_univ _)

/-- The body, run on any buffers: the two inputs stay, and the four output blocks hold the codes and scales of the
    block's gradient. -/
theorem kernelRun (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x1024 .fp8e4m3) (harg4 : arg4.IsWhole) (arg5 : Memref sig .tc .vmem S8x1024 .f32) (harg5 : arg5.IsWhole) (arg6 : Memref sig .tc .vmem S1024x1024 .fp8e4m3) (harg6 : arg6.IsWhole) (arg7 : Memref sig .tc .vmem S8x1024 .f32) (harg7 : arg7.IsWhole) (arg8 : Memref sig .tc .vmem S256x1024 .f32) (harg8 : arg8.IsWhole) (arg9 : Memref sig .tc .vmem S8x1x1024 .f32) (harg9 : arg9.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) :
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9))
      ⊢ (wp frame (wpE (defs₀ (F := Ideal)) Variants.none (c : Thread nD τ) none) Set.univ
          (cc0_dswiglu_quant (F := Ideal) i arg2 harg2 arg3 harg3 arg4 harg4 arg5 harg5 arg6 harg6 arg7 harg7 arg8 harg8 arg9 harg9)
          (fun _ => iprop((arg2.view.loc (c : Thread nD τ) ↦[arg2.view.set]{fullShare} f2) ∗ (arg3.view.loc (c : Thread nD τ) ↦[arg3.view.set]{fullShare} f3)
            ∗ (∃ f, ⌜arg4.view.read (Elt Ideal) f = G4 (blkD arg2 arg3 f2 f3)⌝ ∗ arg4.view.loc (c : Thread nD τ) ↦[arg4.view.set]{fullShare} f)
            ∗ (∃ f, ⌜arg5.view.read (Elt Ideal) f = G5 (blkD arg2 arg3 f2 f3)⌝ ∗ arg5.view.loc (c : Thread nD τ) ↦[arg5.view.set]{fullShare} f)
            ∗ (∃ f, ⌜arg6.view.read (Elt Ideal) f = G6 (blkD arg2 arg3 f2 f3)⌝ ∗ arg6.view.loc (c : Thread nD τ) ↦[arg6.view.set]{fullShare} f)
            ∗ (∃ f, ⌜arg7.view.read (Elt Ideal) f = G7 (blkD arg2 arg3 f2 f3)⌝ ∗ arg7.view.loc (c : Thread nD τ) ↦[arg7.view.set]{fullShare} f)
            ∗ (∃ f, arg8.view.loc (c : Thread nD τ) ↦[arg8.view.set]{fullShare} f) ∗ (∃ f, arg9.view.loc (c : Thread nD τ) ↦[arg9.view.set]{fullShare} f))) : sProp 𝕄) := by
  rw [cc0_dswiglu_quant_eq_skeleton]
  unfold cc0_dswiglu_quant_skel
  iintro ⟨H2, H3, H4, H5, H6, H7, H8, H9⟩
  sl_exec
  sl_step
  isplitl [H2]; · iexact H2
  isplitl [H3]; · iexact H3
  isplitl [H4]
  · iexists _; isplitr; swap; · iexact H4
    ipureintro
    exact read_good _ _ (all4 Variants.none c none i arg2 harg2 arg3 harg3 arg4 harg4 arg5 harg5 arg6 harg6 arg7 harg7 arg8 harg8 arg9 harg9 f2 f3 f4 f5 f6 f8 f9)
  isplitl [H5]
  · iexists _; isplitr; swap; · iexact H5
    ipureintro
    exact read_good _ _ (all5 Variants.none c none i arg2 harg2 arg3 harg3 arg4 harg4 arg5 harg5 arg6 harg6 arg7 harg7 arg8 harg8 arg9 harg9 f2 f3 f4 f5 f6 f8 f9)
  isplitl [H6]
  · iexists _; isplitr; swap; · iexact H6
    ipureintro
    exact read_good _ _ (all6 Variants.none c none i arg2 harg2 arg3 harg3 arg4 harg4 arg5 harg5 arg6 harg6 arg7 harg7 arg8 harg8 arg9 harg9 f2 f3 f4 f5 f6 f8 f9)
  isplitl [H7]
  · iexists _; isplitr; swap; · iexact H7
    ipureintro
    have h9 : kernelRun.sl.v9 c i arg2 harg2 arg3 harg3 arg4 harg4 arg5 harg5 arg6 harg6 arg7 harg7 arg8 harg8 arg9 harg9 f2 f3 f4 f5 f6 f8 f9
        = G9 (blkD arg2 arg3 f2 f3) := by
      unfold kernelRun.sl.v9
      exact (readAt_whole arg9 _ _).trans
        (read_good _ _ (all9 Variants.none c none i arg2 harg2 arg3 harg3 arg4 harg4 arg5 harg5 arg6 harg6 arg7 harg7 arg8 harg8 arg9 harg9 f2 f3 f4 f5 f6 f8 f9))
    rw [h9, pay5_at]
    exact read_good _ _ (whole7 (G7 (blkD arg2 arg3 f2 f3)))
  isplitl [H8]; · iexists _; iexact H8
  iexists _; iexact H9

end Cert.KernelIdeal.Hand
end
-- ==== Proof.Body.lean ====
module

public import proofs.«01_k».proof.Proof.Run
public import proofs.«01_k».proof.Proof.Gen.KernelIdeal.Frame

/-! The whole run of the kernel's pipeline over the reals: at every grid point the four output blocks hold the codes
and scales of the gradient of the two input blocks; at the end the arguments stand and every counter is zero. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The gradient of the pair of input blocks at a grid point. -/
def ptD (c : Dev nD) (t : Fin cfg0.N) : ℕ → ℕ → EReal :=
  Spec.dx (fn2 (R := 1024) (C := 1024) (iblk m c 0 t)) (fn2 (R := 1024) (C := 512) (iblk m c 1 t))

/-- The proof data: the arrays as the region finds them; after the body the inputs are as fetched and the outputs hold
    the block's codes and scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => G4 (ptD m c t)
    | ⟨3, _⟩ => G5 (ptD m c t)
    | ⟨4, _⟩ => G6 (ptD m c t)
    | ⟨5, _⟩ => G7 (ptD m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = G4 (ptD m c t) := by dsimp only [dats]
theorem after3 (c : Dev nD) (t : Fin cfg0.N) : (dats m 0 c).after 3 t = G5 (ptD m c t) := by dsimp only [dats]
theorem after4 (c : Dev nD) (t : Fin cfg0.N) : (dats m 0 c).after 4 t = G6 (ptD m c t) := by dsimp only [dats]
theorem after5 (c : Dev nD) (t : Fin cfg0.N) : (dats m 0 c).after 5 t = G7 (ptD m c t) := by dsimp only [dats]

theorem before0 (c : Dev nD) (t : Fin cfg0.N) (d) : (dats m 0 c).before 0 t d = iblk m c 0 t :=
  before0_0_of m _ (A_eq m c 0) (after0 m c) t d
theorem before1 (c : Dev nD) (t : Fin cfg0.N) (d) : (dats m 0 c).before 1 t d = iblk m c 1 t :=
  before0_1_of m _ (A_eq m c 1) (after1 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at point `t`, from what it is given to what it gives back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl, show (dats m 0 c).owesAt () t.succ = (dats m 0 c).owesAt () t.castSucc from rfl]
  rw [show (dats m 0 c).Φ t.castSucc = Pipeline.ΦA spec0 c from rfl, after0, after1, after2, after3, after4, after5]
  simp only [before0, before1]
  unfold Pipeline.ΦA
  rw [scopedRest0_eq]
  unfold owns
  iintro ⟨⟨⟨⟨%g8, G8⟩, ⟨%g9, G9⟩⟩, Hg⟩, HO, ⟨%d0, %f0, %h0, H0⟩, ⟨%d1, %f1, %h1, H1⟩, ⟨%d2, %f2, -, H2⟩, ⟨%d3, %f3, -, H3⟩, ⟨%d4, %f4, -, H4⟩, ⟨%d5, %f5, -, H5⟩⟩
  have hD : blkD (st0_0 t) (st0_1 t) f0 f1 = ptD m c t := by unfold blkD ptD; rw [← h0, ← h1]
  iapply (wp_wand_r Idealize.ShloMosaic.frame (wpE (defs₀ (F := Ideal)) Variants.none (c : Thread nD τ) none) Set.univ)
  isplitl [H0 H1 H2 H3 H4 H5 G8 G9]
  · iapply (kernelRun c _ _ _ _ _ _ _ _ _ _ _ _ _ _ _ _ _ f0 f1 f2 f3 f4 f5 g8 g9)
    isplitl [H0]; · iexact H0
    isplitl [H1]; · iexact H1
    isplitl [H2]; · iexact H2
    isplitl [H3]; · iexact H3
    isplitl [H4]; · iexact H4
    isplitl [H5]; · iexact H5
    isplitl [G8]; · simp only [Memref.view_whole, View.set_whole]; iexact G8
    simp only [Memref.view_whole, View.set_whole]; iexact G9
  iintro %_ ⟨H0, H1, ⟨%e2, %k2, H2⟩, ⟨%e3, %k3, H3⟩, ⟨%e4, %k4, H4⟩, ⟨%e5, %k5, H5⟩, ⟨%e8, G8⟩, ⟨%e9, G9⟩⟩
  isplitl [G8 G9 Hg]
  · isplitl [G8 G9]
    · isplitl [G8]
      · iexists e8; simp only [Memref.view_whole, View.set_whole]; iexact G8
      iexists e9; simp only [Memref.view_whole, View.set_whole]; iexact G9
    iexact Hg
  isplitl [HO]; · iexact HO
  isplitl [H0]; · iexists f0; isplitr; swap; · iexact H0
                  ipureintro; exact h0
  isplitl [H1]; · iexists f1; isplitr; swap; · iexact H1
                  ipureintro; exact h1
  isplitl [H2]; · iexists e2; isplitr; swap; · iexact H2
                  ipureintro; exact k2.trans (congrArg G4 hD)
  isplitl [H3]; · iexists e3; isplitr; swap; · iexact H3
                  ipureintro; exact k3.trans (congrArg G5 hD)
  isplitl [H4]; · iexists e4; isplitr; swap; · iexact H4
                  ipureintro; exact k4.trans (congrArg G6 hD)
  iexists e5; isplitr; swap; · iexact H5
  ipureintro; exact k5.trans (congrArg G7 hD)

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- From any memory with zero counters the program ends, nothing faults, every buffer is as the proof data and the host
    lines after the region say, and every counter is zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps
    (hmain := hmain m Variants.none) (hA := fun _ _ => by dsimp only [dats]) (hΦ := fun _ _ => rfl)

/-- The frame of the kernel over the reals, with its counters. -/
theorem frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩, h.2⟩) (run_main m ρ)

end Cert.KernelIdeal.Hand
end
-- ==== Proof.Arrays.lean ====
module

public import proofs.«01_k».proof.Proof.Body
public import Idealize.ShloMosaic.Lib.Pipeline.ValueKit

/-! What the kernel's result arrays hold after the run, over the reals: the codes and the scales of the whole gradient. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The gradient of the whole arrays the region reads. -/
def mD (c : Dev nD) : ℕ → ℕ → EReal :=
  Spec.dx (fn2 (R := 22528) (C := 5120) (V m c main_v0)) (fn2 (R := 22528) (C := 2560) (V m c main_v1))

theorem idx : ∀ t : Fin cfg0.N, win0_0.index t = ![t.val / 5, t.val % 5] ∧ win0_1.index t = ![t.val / 5, t.val % 5]
    ∧ win0_2.index t = ![t.val / 5, t.val % 5] ∧ win0_3.index t = ![t.val % 5, t.val / 5]
    ∧ win0_4.index t = ![t.val % 5, t.val / 5] ∧ win0_5.index t = ![t.val / 5, t.val % 5] :=
  (by decide +kernel : ∀ t : Fin grid0.N, _)

theorem t_lt (t : Fin cfg0.N) : t.val / 5 < 22 ∧ t.val % 5 < 5 := by
  have h : t.val < 110 := t.isLt
  omega

/-- The first operand's block at a point, by its position in the array. -/
theorem iblk0 (c : Dev nD) (t : Fin cfg0.N) {i j : ℕ} (hi : i < 1024) (hj : j < 1024) :
    fn2 (R := 1024) (C := 1024) (iblk m c 0 t) i j
      = fn2 (R := 22528) (C := 5120) (V m c main_v0) (1024 * (t.val / 5) + i) (1024 * (t.val % 5) + j) := by
  obtain ⟨e0, -⟩ := idx t
  have hh : ∀ y : S1024x1024.Idx, iblk m c 0 t y = fn2 (R := 22528) (C := 5120) (V m c main_v0) (1024 * (t.val / 5) + (y 0).val) (1024 * (t.val % 5) + (y 1).val) := by
    intro y
    unfold iblk
    refine (fn2_idx (R := 22528) (C := 5120) (V m c main_v0) _).trans ?_
    blk_simp [e0]
    congr 1 <;> omega
  exact (fn2_at (R := 1024) (C := 1024) (iblk m c 0 t) ⟨i, hi⟩ ⟨j, hj⟩).trans (hh _)

/-- The second operand's block at a point, by its position in the array. -/
theorem iblk1 (c : Dev nD) (t : Fin cfg0.N) {i j : ℕ} (hi : i < 1024) (hj : j < 512) :
    fn2 (R := 1024) (C := 512) (iblk m c 1 t) i j
      = fn2 (R := 22528) (C := 2560) (V m c main_v1) (1024 * (t.val / 5) + i) (512 * (t.val % 5) + j) := by
  obtain ⟨-, e1, -⟩ := idx t
  have hh : ∀ y : S1024x512.Idx, iblk m c 1 t y = fn2 (R := 22528) (C := 2560) (V m c main_v1) (1024 * (t.val / 5) + (y 0).val) (512 * (t.val % 5) + (y 1).val) := by
    intro y
    unfold iblk
    refine (fn2_idx (R := 22528) (C := 2560) (V m c main_v1) _).trans ?_
    blk_simp [e1]
    congr 1 <;> omega
  exact (fn2_at (R := 1024) (C := 512) (iblk m c 1 t) ⟨i, hi⟩ ⟨j, hj⟩).trans (hh _)

/-- The block's gradient is the block of the gradient. -/
theorem ptD_eq (c : Dev nD) (t : Fin cfg0.N) {i j : ℕ} (hi : i < 1024) (hj : j < 1024) :
    ptD m c t i j = mD m c (1024 * (t.val / 5) + i) (1024 * (t.val % 5) + j) := by
  unfold ptD mD
  refine (Spec.dx_shift (C := 1024) (a := 1024 * (t.val / 5)) (b := 4 * (t.val % 5)) (by omega) hj
    (fun c' h => (iblk0 m c t hi h).trans (by congr 1; omega)) (fun c' h => (iblk1 m c t hi (by omega)).trans (by congr 1; omega))).trans ?_
  congr 1; omega

theorem ptD_row (c : Dev nD) (t : Fin cfg0.N) : ∀ i j, i < 1024 → j < 1024 →
    ptD m c t i j = mD m c (1024 * (t.val / 5) + i) (128 * (8 * (t.val % 5)) + j) :=
  fun i j hi hj => (ptD_eq m c t hi hj).trans (by congr 1; omega)

theorem ptD_col (c : Dev nD) (t : Fin cfg0.N) : ∀ i j, i < 1024 → j < 1024 →
    ptD m c t i j = mD m c (128 * (8 * (t.val / 5)) + i) (1024 * (t.val % 5) + j) :=
  fun i j hi hj => (ptD_eq m c t hi hj).trans (by congr 1; omega)

/-- The row codes. -/
theorem out0 (c : Dev nD) : (dats m 0 c).arrAt 2 cfg0.N = (fun i : S22528x5120.Idx => Spec.codes (mD m c) (i 0).val (i 1).val) := by
  refine (dats m 0 c).arrAt_eq_of_covers 2 _ (by decide +kernel) fun t hf y => ?_
  obtain ⟨-, -, e, -⟩ := idx t
  blk_simp [e]
  rw [after2]
  change S1024x1024.Idx at y
  refine (Spec.codes_shift (ptD_row m c t) (by omega) (y 0).isLt (y 1).isLt).trans ?_
  congr 1 <;> omega

/-- The row scales, transposed. -/
theorem out1 (c : Dev nD) : (dats m 0 c).arrAt 3 cfg0.N = (fun i : S40x22528.Idx => Spec.scl (Spec.rmax (mD m c) (i 1).val (i 0).val)) := by
  refine (dats m 0 c).arrAt_eq_of_covers 3 _ (by decide +kernel) fun t hf y => ?_
  obtain ⟨-, -, -, e, -⟩ := idx t
  blk_simp [e]
  rw [after3]
  change S8x1024.Idx at y
  have h0 : (y 0).val < 8 := (y 0).isLt
  refine (congrArg Spec.scl (Spec.rmax_shift (ptD_row m c t) (y 1).isLt (q := (y 0).val) (by omega))).trans ?_
  congr 2 <;> omega

/-- The column codes, transposed. -/
theorem out2 (c : Dev nD) : (dats m 0 c).arrAt 4 cfg0.N = (fun i : S5120x22528.Idx => Spec.codesT (mD m c) (i 1).val (i 0).val) := by
  refine (dats m 0 c).arrAt_eq_of_covers 4 _ (by decide +kernel) fun t hf y => ?_
  obtain ⟨-, -, -, -, e, -⟩ := idx t
  blk_simp [e]
  rw [after4]
  change S1024x1024.Idx at y
  refine (Spec.codesT_shift (ptD_col m c t) (by omega) (y 1).isLt (y 0).isLt).trans ?_
  congr 1 <;> omega

/-- The column scales. -/
theorem out3 (c : Dev nD) : (dats m 0 c).arrAt 5 cfg0.N = (fun i : S176x5120.Idx => Spec.scl (Spec.cmax (mD m c) (i 0).val (i 1).val)) := by
  refine (dats m 0 c).arrAt_eq_of_covers 5 _ (by decide +kernel) fun t hf y => ?_
  obtain ⟨-, -, -, -, -, e⟩ := idx t
  blk_simp [e]
  rw [after5]
  change S8x1024.Idx at y
  have h0 : (y 0).val < 8 := (y 0).isLt
  refine (congrArg Spec.scl (Spec.cmax_shift (ptD_col m c t) (p := (y 0).val) (by omega) (y 1).isLt)).trans ?_
  congr 2 <;> omega

end Cert.KernelIdeal.Hand
end
-- ==== Proof.RefGrad.lean ====
module

public import proofs.«01_k».proof.Proof.Square
public import proofs.«01_k».proof.Proof.Gen.ReferenceIdeal.Read

/-! The reference's gradient and its groups' largest magnitudes, read at an index. -/

@[expose] public section

set_option maxRecDepth 16384

noncomputable section

namespace Cert.Spec

open Idealize.ShloMosaic

/-- The sigmoid as the reference computes it. -/
def sgR (g : EReal) : EReal :=
  FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) g)))

/-- The reference's gradient with respect to the gate. -/
def dgR (g u d : EReal) : EReal :=
  FloatOps.mulf (F := Ideal) (φ := .f32) (FloatOps.mulf (F := Ideal) (φ := .f32) (FloatOps.mulf (F := Ideal) (φ := .f32) d u) (sgR g))
    (FloatOps.addf (F := Ideal) (φ := .f32) (FloatOps.ofBits (F := Ideal) .f32 0x3F800000#32)
      (FloatOps.mulf (F := Ideal) (φ := .f32) g (FloatOps.subf (F := Ideal) (φ := .f32) (FloatOps.ofBits (F := Ideal) .f32 0x3F800000#32) (sgR g))))

/-- The reference's gradient with respect to the up projection. -/
def duR (g d : EReal) : EReal :=
  FloatOps.mulf (F := Ideal) (φ := .f32) (FloatOps.mulf (F := Ideal) (φ := .f32) d g) (sgR g)

/-- The reference's gradient at row `i`, column `c`. -/
def dxR (x y : ℕ → ℕ → EReal) (i c : ℕ) : EReal :=
  if c % 256 < 128 then dgR (x i c) (x i (c + 128)) (y i (128 * (c / 256) + c % 128))
  else duR (x i (c - 128)) (y i (128 * (c / 256) + c % 128))

/-- An array of two leading axes as a function of the joined row and a column, zero outside. -/
def flat {C : ℕ} (x : (⟨3, ![11, 2048, C]⟩ : Shape).Idx → EReal) (i c : ℕ) : EReal :=
  if h : i < 22528 ∧ c < C then x (ix3 ⟨i / 2048, by omega⟩ ⟨i % 2048, by omega⟩ ⟨c, h.2⟩) else 0

theorem flat_idx {C : ℕ} (x : (⟨3, ![11, 2048, C]⟩ : Shape).Idx → EReal) (j : (⟨3, ![11, 2048, C]⟩ : Shape).Idx) {i c : ℕ}
    (hi : (j 0).val * 2048 + (j 1).val = i) (hc : (j 2).val = c) : x j = flat x i c := by
  have h0 : (j 0).val < 11 := (j 0).isLt
  have h1 : (j 1).val < 2048 := (j 1).isLt
  have h2 : (j 2).val < C := (j 2).isLt
  unfold flat
  rw [dif_pos ⟨by omega, by omega⟩]
  congr 1
  funext a
  fin_cases a
  · exact Fin.ext (by show (j 0).val = i / 2048; omega)
  · exact Fin.ext (by show (j 1).val = i % 2048; omega)
  · exact Fin.ext hc

end Cert.Spec

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : (⟨S11x2048x5120, .bf16⟩ : BufTy).Contents (Elt Ideal)) (x1 : (⟨S11x2048x2560, .bf16⟩ : BufTy).Contents (Elt Ideal))

theorem v1_at (i : S22528x20x2x128.Idx) {r c : ℕ} (hr : (i 0).val = r) (hc : 256 * (i 1).val + 128 * (i 2).val + (i 3).val = c) :
    val_main_v1 (F := Ideal) x0 i = Spec.flat x0 r c := by
  have h0 : (i 0).val < 22528 := (i 0).isLt
  have h1 : (i 1).val < 20 := (i 1).isLt
  have h2 : (i 2).val < 2 := (i 2).isLt
  have h3 : (i 3).val < 128 := (i 3).isLt
  rw [val_main_v1_apply, val_main_v0_apply]
  refine Spec.flat_idx x0 _ ?_ ?_ <;> simp only [idx_main_v0] <;> omega

/-- The gate. -/
theorem v3_at (i : S22528x20x128.Idx) {r c : ℕ} (hr : (i 0).val = r) (hc : 256 * (i 1).val + (i 2).val = c) :
    val_main_v3 (F := Ideal) x0 i = Spec.flat x0 r c := by
  have h0 : (i 0).val < 22528 := (i 0).isLt
  have h1 : (i 1).val < 20 := (i 1).isLt
  have h2 : (i 2).val < 128 := (i 2).isLt
  rw [val_main_v3_apply, val_main_v2_apply]
  refine v1_at x0 _ ?_ ?_ <;> simp only [idx_main_v3, idx_main_v2] <;> omega

/-- The up projection. -/
theorem v5_at (i : S22528x20x128.Idx) {r c : ℕ} (hr : (i 0).val = r) (hc : 256 * (i 1).val + (i 2).val + 128 = c) :
    val_main_v5 (F := Ideal) x0 i = Spec.flat x0 r c := by
  have h0 : (i 0).val < 22528 := (i 0).isLt
  have h1 : (i 1).val < 20 := (i 1).isLt
  have h2 : (i 2).val < 128 := (i 2).isLt
  rw [val_main_v5_apply, val_main_v4_apply]
  refine v1_at x0 _ ?_ ?_ <;> simp only [idx_main_v5, idx_main_v4] <;> omega

/-- The incoming gradient. -/
theorem v7_at (i : S22528x20x128.Idx) {r c : ℕ} (hr : (i 0).val = r) (hc : 128 * (i 1).val + (i 2).val = c) :
    val_main_v7 (F := Ideal) x1 i = Spec.flat x1 r c := by
  have h0 : (i 0).val < 22528 := (i 0).isLt
  have h1 : (i 1).val < 20 := (i 1).isLt
  have h2 : (i 2).val < 128 := (i 2).isLt
  rw [val_main_v7_apply, val_main_v6_apply]
  refine Spec.flat_idx x1 _ ?_ ?_ <;> simp only [idx_main_v6] <;> omega

theorem v21_at (i : S22528x20x128.Idx) :
    val_main_v21 (F := Ideal) x0 x1 i = Spec.dgR (val_main_v3 (F := Ideal) x0 i) (val_main_v5 (F := Ideal) x0 i) (val_main_v7 (F := Ideal) x1 i) := by
  simp only [val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_cst_apply, val_main_cst_0_apply, val_main_cst_1_apply, val_main_cst_2_apply]
  rfl

theorem v23_at (i : S22528x20x128.Idx) :
    val_main_v23 (F := Ideal) x0 x1 i = Spec.duR (val_main_v3 (F := Ideal) x0 i) (val_main_v7 (F := Ideal) x1 i) := by
  simp only [val_main_v23_apply, val_main_v22_apply, val_main_v13_apply, val_main_v12_apply, val_main_v11_apply, val_main_v10_apply,
    val_main_v9_apply, val_main_v8_apply, val_main_cst_apply, val_main_cst_0_apply]
  rfl

/-- The reference's gradient as a function of the flattened arguments. -/
abbrev D : ℕ → ℕ → EReal := Spec.dxR (Spec.flat x0) (Spec.flat x1)

theorem v24_at (i : S22528x20x1x128.Idx) {r c d : ℕ} (hr : (i 0).val = r) (hc : 256 * (i 1).val + (i 3).val = c)
    (hd : 128 * (i 1).val + (i 3).val = d) :
    val_main_v24 (F := Ideal) x0 x1 i = Spec.dgR (Spec.flat x0 r c) (Spec.flat x0 r (c + 128)) (Spec.flat x1 r d) := by
  rw [val_main_v24_apply, v21_at, v3_at x0 _ (r := r) (c := c), v5_at x0 _ (r := r) (c := c + 128), v7_at x1 _ (r := r) (c := d)] <;>
    simp only [idx_main_v24] <;> omega

theorem v25_at (i : S22528x20x1x128.Idx) {r c d : ℕ} (hr : (i 0).val = r) (hc : 256 * (i 1).val + (i 3).val = c)
    (hd : 128 * (i 1).val + (i 3).val = d) :
    val_main_v25 (F := Ideal) x0 x1 i = Spec.duR (Spec.flat x0 r c) (Spec.flat x1 r d) := by
  rw [val_main_v25_apply, v23_at, v3_at x0 _ (r := r) (c := c), v7_at x1 _ (r := r) (c := d)] <;>
    simp only [idx_main_v25] <;> omega

theorem v26_at (i : S22528x20x2x128.Idx) {r c : ℕ} (hr : (i 0).val = r) (hc : 256 * (i 1).val + 128 * (i 2).val + (i 3).val = c) :
    val_main_v26 (F := Ideal) x0 x1 i = D x0 x1 r c := by
  have h0 : (i 0).val < 22528 := (i 0).isLt
  have h1 : (i 1).val < 20 := (i 1).isLt
  have h2 : (i 2).val < 2 := (i 2).isLt
  have h3 : (i 3).val < 128 := (i 3).isLt
  unfold val_main_v26 D Spec.dxR
  pointwise
  by_cases h : (i 2).val < 1
  · refine (dif_pos h).trans (Eq.trans ?_ (if_pos (c := c % 256 < 128) (by omega)).symm)
    refine v24_at x0 x1 _ hr ?_ ?_
    · show 256 * (i 1).val + (i 3).val = c; omega
    · show 128 * (i 1).val + (i 3).val = 128 * (c / 256) + c % 128; omega
  · refine (dif_neg h).trans (Eq.trans ?_ (if_neg (c := c % 256 < 128) (by omega)).symm)
    refine v25_at x0 x1 _ hr ?_ ?_
    · show 256 * (i 1).val + (i 3).val = c - 128; omega
    · show 128 * (i 1).val + (i 3).val = 128 * (c / 256) + c % 128; omega

/-- The reference's gradient. -/
theorem v27_at (i : S22528x5120.Idx) {r c : ℕ} (hr : (i 0).val = r) (hc : (i 1).val = c) :
    val_main_v27 (F := Ideal) x0 x1 i = D x0 x1 r c := by
  have h0 : (i 0).val < 22528 := (i 0).isLt
  have h1 : (i 1).val < 5120 := (i 1).isLt
  rw [val_main_v27_apply]
  refine v26_at x0 x1 _ ?_ ?_ <;> simp only [idx_main_v27] <;> omega

theorem v29_at (i : S22528x40x128.Idx) {r c : ℕ} (hr : (i 0).val = r) (hc : 128 * (i 1).val + (i 2).val = c) :
    val_main_v29 (F := Ideal) x0 x1 i = FloatOps.absf (F := Ideal) (φ := .f32) (D x0 x1 r c) := by
  have h0 : (i 0).val < 22528 := (i 0).isLt
  have h1 : (i 1).val < 40 := (i 1).isLt
  have h2 : (i 2).val < 128 := (i 2).isLt
  rw [val_main_v29_apply, val_main_v28_apply]
  refine congrArg (FloatOps.absf (F := Ideal) (φ := .f32)) (v27_at x0 x1 _ ?_ ?_) <;> simp only [idx_main_v29] <;> omega

theorem v58_at (i : S176x128x5120.Idx) {r c : ℕ} (hr : 128 * (i 0).val + (i 1).val = r) (hc : (i 2).val = c) :
    val_main_v58 (F := Ideal) x0 x1 i = FloatOps.absf (F := Ideal) (φ := .f32) (D x0 x1 r c) := by
  have h0 : (i 0).val < 176 := (i 0).isLt
  have h1 : (i 1).val < 128 := (i 1).isLt
  have h2 : (i 2).val < 5120 := (i 2).isLt
  rw [val_main_v58_apply, val_main_v28_apply]
  refine congrArg (FloatOps.absf (F := Ideal) (φ := .f32)) (v27_at x0 x1 _ ?_ ?_) <;> simp only [idx_main_v58] <;> omega

/-- The largest magnitude of a group of a row. -/
theorem v30_at (i : S22528x40.Idx) {r q : ℕ} (hr : (i 0).val = r) (hq : (i 1).val = q) :
    val_main_v30 (F := Ideal) x0 x1 i = Spec.rmax (D x0 x1) r q := by
  unfold val_main_v30
  pointwise
  rw [val_main_cst_3_apply]
  unfold Spec.rmax Spec.amax
  congr 1
  funext k
  exact v29_at x0 x1 _ hr (by rw [← hq]; rfl)

/-- The largest magnitude of a group of a column. -/
theorem v59_at (i : S176x5120.Idx) {p c : ℕ} (hp : (i 0).val = p) (hc : (i 1).val = c) :
    val_main_v59 (F := Ideal) x0 x1 i = Spec.cmax (D x0 x1) p c := by
  unfold val_main_v59
  pointwise
  rw [val_main_cst_15_apply]
  unfold Spec.cmax Spec.amax
  congr 1
  funext k
  exact v58_at x0 x1 _ (by rw [← hp]; rfl) hc

end Cert.ReferenceIdeal.Hand
end
-- ==== Proof.KernelEnds.lean ====
module

public import proofs.«01_k».proof.Proof.Arrays
public import proofs.«01_k».proof.Proof.RefGrad

/-! The kernel's four results after the host lines around the region, over the reals, from its arguments. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The gradient of the kernel's arguments. -/
def argD (c : Dev nD) : ℕ → ℕ → EReal :=
  Spec.dx (Spec.flat (C := 5120) (m ((c.tc : Thread nD τ).loc main_arg0))) (Spec.flat (C := 2560) (m ((c.tc : Thread nD τ).loc main_arg1)))

/-- The region reads the first argument with its leading axes joined. -/
theorem V_main_v0 (c : Dev nD) : V m c main_v0 = shapeCast S22528x5120 (m ((c.tc : Thread nD τ).loc main_arg0)) shapeCasts_S11x2048x5120_S22528x5120 := by
  entry_read
  rfl

/-- And the second. -/
theorem V_main_v1 (c : Dev nD) : V m c main_v1 = shapeCast S22528x2560 (m ((c.tc : Thread nD τ).loc main_arg1)) shapeCasts_S11x2048x2560_S22528x2560 := by
  entry_read
  rfl

/-- The second result is the row scales, transposed back. -/
theorem tail_v3 (c : Dev nD) : Pipeline.afterTail₀ cfgs (dats m) 0 (V0 m) [hostOps1] c main_v3
    = transpose S22528x40 [1, 0] ((dats m 0 c).arrAt 3 cfg0.N) transposes_S40x22528_S22528x40_1_0 := by
  unfold Pipeline.afterTail₀
  simp only [hostOps1, List.flatten_cons, List.flatten_nil, List.append_nil, StableHlo.after_cons, StableHlo.after_nil]
  rw [StableHlo.unary_result_ne' (h := by decide), StableHlo.unary_result']
  have := Pipeline.withArrays_arr spec0 (by decide) c (V0 m c) (fun w => (dats m 0 c).arrAt w cfg0.N) 3
  exact congrArg (fun z => transpose S22528x40 [1, 0] z transposes_S40x22528_S22528x40_1_0) this

/-- The fourth is the column scales, transposed. -/
theorem tail_v4 (c : Dev nD) : Pipeline.afterTail₀ cfgs (dats m) 0 (V0 m) [hostOps1] c main_v4
    = transpose S5120x176 [1, 0] ((dats m 0 c).arrAt 5 cfg0.N) transposes_S176x5120_S5120x176_1_0 := by
  unfold Pipeline.afterTail₀
  simp only [hostOps1, List.flatten_cons, List.flatten_nil, List.append_nil, StableHlo.after_cons, StableHlo.after_nil]
  rw [StableHlo.unary_result', StableHlo.unary_result_ne' (h := by decide)]
  have := Pipeline.withArrays_arr spec0 (by decide) c (V0 m c) (fun w => (dats m 0 c).arrAt w cfg0.N) 5
  exact congrArg (fun z => transpose S5120x176 [1, 0] z transposes_S176x5120_S5120x176_1_0) this

theorem cast_x (x : S11x2048x5120.Idx → EReal) (y : S22528x5120.Idx) :
    shapeCast S22528x5120 x shapeCasts_S11x2048x5120_S22528x5120 y = Spec.flat (C := 5120) x (y 0).val (y 1).val := by
  idx_vars y
  pointwise
  exact Spec.flat_idx x _ (by show y0.val / 2048 * 2048 + y0.val % 2048 = y0.val; omega) rfl

theorem cast_y (x : S11x2048x2560.Idx → EReal) (y : S22528x2560.Idx) :
    shapeCast S22528x2560 x shapeCasts_S11x2048x2560_S22528x2560 y = Spec.flat (C := 2560) x (y 0).val (y 1).val := by
  idx_vars y
  pointwise
  exact Spec.flat_idx x _ (by show y0.val / 2048 * 2048 + y0.val % 2048 = y0.val; omega) rfl

theorem fn2_flat {C : ℕ} {f : (⟨2, ![22528, C]⟩ : Shape).Idx → EReal} {x : (⟨3, ![11, 2048, C]⟩ : Shape).Idx → EReal}
    (h : ∀ y, f y = Spec.flat x (y 0).val (y 1).val) : fn2 f = Spec.flat x := by
  funext i j
  unfold fn2
  split
  · exact h _
  · rename_i hn
    unfold Spec.flat
    rw [dif_neg hn]

/-- The gradient of the arrays the region reads is that of the arguments. -/
theorem mD_eq (c : Dev nD) : mD m c = argD m c := by
  have hx : fn2 (R := 22528) (C := 5120) (V m c main_v0) = Spec.flat (C := 5120) (m ((c.tc : Thread nD τ).loc main_arg0)) :=
    fn2_flat fun y => (congrFun (V_main_v0 m c) y).trans (cast_x _ y)
  have hy : fn2 (R := 22528) (C := 2560) (V m c main_v1) = Spec.flat (C := 2560) (m ((c.tc : Thread nD τ).loc main_arg1)) :=
    fn2_flat fun y => (congrFun (V_main_v1 m c) y).trans (cast_y _ y)
  exact congrArg₂ Spec.dx hx hy

/-- The kernel's run over the reals: its four results, element by element, from its arguments, which stay. -/
theorem run_values :
    θ_run defs (onTc (τ := τ) (main (F := Ideal))) ⟨m, fun _ => 0, ρ⟩ (fun r => ∀ c : Dev nD,
      r.2.mem ((c.tc : Thread nD τ).loc main_v2_0) = (fun i : S22528x5120.Idx => Spec.codes (argD m c) (i 0).val (i 1).val)
      ∧ r.2.mem ((c.tc : Thread nD τ).loc main_v3) = (fun i : S22528x40.Idx => Spec.scl (Spec.rmax (argD m c) (i 0).val (i 1).val))
      ∧ r.2.mem ((c.tc : Thread nD τ).loc main_v2_2) = (fun i : S5120x22528.Idx => Spec.codesT (argD m c) (i 1).val (i 0).val)
      ∧ r.2.mem ((c.tc : Thread nD τ).loc main_v4) = (fun i : S5120x176.Idx => Spec.scl (Spec.cmax (argD m c) (i 1).val (i 0).val))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).1 2).trans ((out0 m c).trans (by rw [mD_eq])),
     ((h.1 c).2 main_v3 (Pipeline.mem_restRefs_of main_v3 (by decide) (by decide))).trans
       ((tail_v3 m c).trans (by rw [out1, mD_eq]; funext i; idx_vars i; pointwise)),
     ((h.1 c).1 4).trans ((out2 m c).trans (by rw [mD_eq])),
     ((h.1 c).2 main_v4 (Pipeline.mem_restRefs_of main_v4 (by decide) (by decide))).trans
       ((tail_v4 m c).trans (by rw [out3, mD_eq]; funext i; idx_vars i; pointwise)),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩) (run_main m ρ)

end Cert.KernelIdeal.Hand
end
-- ==== Proof.RefQuant.lean ====
module

public import proofs.«01_k».proof.Proof.RefGrad

/-! The reference's four results, read at an index. -/

@[expose] public section

set_option maxRecDepth 16384

noncomputable section

namespace Cert.Spec

open Idealize.ShloMosaic

/-- A group's largest magnitude over 448, flushed to zero below the least normal number. -/
def tR (a : EReal) : EReal :=
  Scalar.select (FloatOps.cmpf (F := Ideal) (φ := .f32) .olt (FloatOps.mulf (F := Ideal) (φ := .f32) a (FloatOps.ofBits (F := Ideal) .f32 0x3B124925#32)) (FloatOps.ofBits (F := Ideal) .f32 0x00800000#32))
    (FloatOps.ofBits (F := Ideal) .f32 0x00000000#32) (FloatOps.mulf (F := Ideal) (φ := .f32) a (FloatOps.ofBits (F := Ideal) .f32 0x3B124925#32))

/-- The reference's exponent: one more than the whole part of the logarithm to base two, or zero. -/
def eR (a : EReal) : EReal :=
  Scalar.select (FloatOps.cmpf (F := Ideal) (φ := .f32) .oeq (tR a) (FloatOps.ofBits (F := Ideal) .f32 0x00000000#32))
    (FloatOps.ofBits (F := Ideal) .f32 0x00000000#32)
    (FloatOps.addf (F := Ideal) (φ := .f32)
      (FloatOps.hostUnary (F := Ideal) (φ := .f32) .floor
        (FloatOps.hostDivf (F := Ideal) (φ := .f32) (FloatOps.hostUnary (F := Ideal) (φ := .f32) .log (tR a))
          (FloatOps.hostUnary (F := Ideal) (φ := .f32) .log (FloatOps.ofBits (F := Ideal) .f32 0x40000000#32))))
      (FloatOps.ofBits (F := Ideal) .f32 0x3F800000#32))

/-- The reference's scale. -/
def sclR (a : EReal) : EReal := FloatOps.hostPowf (F := Ideal) (φ := .f32) (FloatOps.ofBits (F := Ideal) .f32 0x40000000#32) (eR a)

/-- The reference's inverse scale. -/
def invR (a : EReal) : EReal :=
  FloatOps.hostPowf (F := Ideal) (φ := .f32) (FloatOps.ofBits (F := Ideal) .f32 0x40000000#32) (FloatOps.hostNegf (F := Ideal) (φ := .f32) (eR a))

/-- The reference's code, scaled along the row. -/
def codesR (D : ℕ → ℕ → EReal) (i c : ℕ) : EReal := clip (D i c * invR (rmax D i (c / 128)))

/-- The reference's code, scaled along the column. -/
def codesTR (D : ℕ → ℕ → EReal) (i c : ℕ) : EReal := clip (D i c * invR (cmax D (i / 128) c))

end Cert.Spec

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : (⟨S11x2048x5120, .bf16⟩ : BufTy).Contents (Elt Ideal)) (x1 : (⟨S11x2048x2560, .bf16⟩ : BufTy).Contents (Elt Ideal))

/-- A row group's largest magnitude over 448, flushed. -/
theorem v36_at (i : S22528x40.Idx) {a : EReal} (h : val_main_v30 (F := Ideal) x0 x1 i = a) : val_main_v36 (F := Ideal) x0 x1 i = Spec.tR a := by
  have hm : val_main_v33 (F := Ideal) x0 x1 i = FloatOps.mulf (F := Ideal) (φ := .f32) a (FloatOps.ofBits (F := Ideal) .f32 0x3B124925#32) := by
    rw [val_main_v33_apply, val_main_v32_apply, val_main_cst_4_apply, h]
  rw [val_main_v36_apply, val_main_v35_apply, hm]
  rw [val_main_v34_apply, val_main_cst_5_apply, val_main_call0_v1_apply, val_main_call0_v0_apply, val_main_cst_6_apply, Spec.tR]

/-- The exponent of a group of a row. -/
theorem v47_at (i : S22528x40.Idx) {a : EReal} (h : val_main_v30 (F := Ideal) x0 x1 i = a) : val_main_v47 (F := Ideal) x0 x1 i = Spec.eR a := by
  have ht := v36_at x0 x1 i h
  rw [val_main_v47_apply, val_main_v38_apply, val_main_v46_apply, val_main_v44_apply, val_main_v43_apply, val_main_v39_apply, ht]
  rw [val_main_call1_v1_apply, val_main_call1_v0_apply, val_main_cst_10_apply, val_main_v45_apply, val_main_cst_9_apply, val_main_v42_apply, val_main_v41_apply, val_main_v40_apply, val_main_cst_8_apply, val_main_v37_apply, val_main_cst_7_apply, Spec.eR]

/-- The scale of a group of a row: the second result. -/
theorem v49_at (i : S22528x40.Idx) {r q : ℕ} (hr : (i 0).val = r) (hq : (i 1).val = q) :
    val_main_v49 (F := Ideal) x0 x1 i = Spec.sclR (Spec.rmax (D x0 x1) r q) := by
  rw [val_main_v49_apply, val_main_v48_apply, val_main_cst_11_apply, v47_at x0 x1 i (v30_at x0 x1 i hr hq)]
  rfl

theorem v52_at (i : S22528x40.Idx) {r q : ℕ} (hr : (i 0).val = r) (hq : (i 1).val = q) :
    val_main_v52 (F := Ideal) x0 x1 i = Spec.invR (Spec.rmax (D x0 x1) r q) := by
  rw [val_main_v52_apply, val_main_v51_apply, val_main_cst_12_apply, val_main_v50_apply, v47_at x0 x1 i (v30_at x0 x1 i hr hq)]
  rfl

theorem v57_at (i : S22528x40x128.Idx) {r c : ℕ} (hr : (i 0).val = r) (hc : 128 * (i 1).val + (i 2).val = c) :
    val_main_v57 (F := Ideal) x0 x1 i = Spec.codesR (D x0 x1) r c := by
  have h0 : (i 0).val < 22528 := (i 0).isLt
  have h1 : (i 1).val < 40 := (i 1).isLt
  have h2 : (i 2).val < 128 := (i 2).isLt
  rw [val_main_v57_apply, val_main_v56_apply, val_main_call2_v4_apply, val_main_call2_v3_apply, val_main_cst_14_apply, val_main_call2_v2_apply,
    val_main_call2_v1_apply, val_main_call2_v0_apply, val_main_cst_13_apply, val_main_v55_apply, val_main_v54_apply, val_main_v53_apply,
    val_main_v31_apply, v27_at x0 x1 _ (r := r) (c := c), v52_at x0 x1 _ (r := r) (q := c / 128)]
  · rfl
  all_goals simp only [idx_main_v54, idx_main_v53, idx_main_v31] <;> omega

/-- The row codes: the first result. -/
theorem v87_at (i : S22528x5120.Idx) : val_main_v87 (F := Ideal) x0 x1 i = Spec.codesR (D x0 x1) (i 0).val (i 1).val := by
  have h0 : (i 0).val < 22528 := (i 0).isLt
  have h1 : (i 1).val < 5120 := (i 1).isLt
  rw [val_main_v87_apply]
  refine v57_at x0 x1 _ ?_ ?_ <;> simp only [idx_main_v87] <;> omega

/-- A column group's largest magnitude over 448, flushed. -/
theorem v65_at (i : S176x5120.Idx) {a : EReal} (h : val_main_v59 (F := Ideal) x0 x1 i = a) : val_main_v65 (F := Ideal) x0 x1 i = Spec.tR a := by
  have hm : val_main_v62 (F := Ideal) x0 x1 i = FloatOps.mulf (F := Ideal) (φ := .f32) a (FloatOps.ofBits (F := Ideal) .f32 0x3B124925#32) := by
    rw [val_main_v62_apply, val_main_v61_apply, val_main_cst_16_apply, h]
  rw [val_main_v65_apply, val_main_v64_apply, hm]
  rw [val_main_v63_apply, val_main_cst_17_apply, val_main_call3_v1_apply, val_main_call3_v0_apply, val_main_cst_18_apply, Spec.tR]

/-- The exponent of a group of a column. -/
theorem v76_at (i : S176x5120.Idx) {a : EReal} (h : val_main_v59 (F := Ideal) x0 x1 i = a) : val_main_v76 (F := Ideal) x0 x1 i = Spec.eR a := by
  have ht := v65_at x0 x1 i h
  rw [val_main_v76_apply, val_main_v67_apply, val_main_v75_apply, val_main_v73_apply, val_main_v72_apply, val_main_v68_apply, ht]
  rw [val_main_call4_v1_apply, val_main_call4_v0_apply, val_main_cst_22_apply, val_main_v74_apply, val_main_cst_21_apply, val_main_v71_apply, val_main_v70_apply, val_main_v69_apply, val_main_cst_20_apply, val_main_v66_apply, val_main_cst_19_apply, Spec.eR]

theorem v78_at (i : S176x5120.Idx) {p c : ℕ} (hp : (i 0).val = p) (hc : (i 1).val = c) :
    val_main_v78 (F := Ideal) x0 x1 i = Spec.sclR (Spec.cmax (D x0 x1) p c) := by
  rw [val_main_v78_apply, val_main_v77_apply, val_main_cst_23_apply, v76_at x0 x1 i (v59_at x0 x1 i hp hc)]
  rfl

theorem v81_at (i : S176x5120.Idx) {p c : ℕ} (hp : (i 0).val = p) (hc : (i 1).val = c) :
    val_main_v81 (F := Ideal) x0 x1 i = Spec.invR (Spec.cmax (D x0 x1) p c) := by
  rw [val_main_v81_apply, val_main_v80_apply, val_main_cst_24_apply, val_main_v79_apply, v76_at x0 x1 i (v59_at x0 x1 i hp hc)]
  rfl

theorem v86_at (i : S176x128x5120.Idx) {r c : ℕ} (hr : 128 * (i 0).val + (i 1).val = r) (hc : (i 2).val = c) :
    val_main_v86 (F := Ideal) x0 x1 i = Spec.codesTR (D x0 x1) r c := by
  have h0 : (i 0).val < 176 := (i 0).isLt
  have h1 : (i 1).val < 128 := (i 1).isLt
  have h2 : (i 2).val < 5120 := (i 2).isLt
  rw [val_main_v86_apply, val_main_v85_apply, val_main_call5_v4_apply, val_main_call5_v3_apply, val_main_cst_26_apply, val_main_call5_v2_apply,
    val_main_call5_v1_apply, val_main_call5_v0_apply, val_main_cst_25_apply, val_main_v84_apply, val_main_v83_apply, val_main_v82_apply,
    val_main_v60_apply, v27_at x0 x1 _ (r := r) (c := c), v81_at x0 x1 _ (p := r / 128) (c := c)]
  · rfl
  all_goals simp only [idx_main_v83, idx_main_v82, idx_main_v60] <;> omega

theorem v88_at (i : S22528x5120.Idx) {r c : ℕ} (hr : (i 0).val = r) (hc : (i 1).val = c) :
    val_main_v88 (F := Ideal) x0 x1 i = Spec.codesTR (D x0 x1) r c := by
  have h0 : (i 0).val < 22528 := (i 0).isLt
  have h1 : (i 1).val < 5120 := (i 1).isLt
  rw [val_main_v88_apply]
  refine v86_at x0 x1 _ ?_ ?_ <;> simp only [idx_main_v88] <;> omega

/-- The column codes, transposed: the third result. -/
theorem v89_at (i : S5120x22528.Idx) : val_main_v89 (F := Ideal) x0 x1 i = Spec.codesTR (D x0 x1) (i 1).val (i 0).val := by
  rw [val_main_v89_apply]
  exact v88_at x0 x1 _ rfl rfl

/-- The column scales, transposed: the fourth result. -/
theorem v90_at (i : S5120x176.Idx) : val_main_v90 (F := Ideal) x0 x1 i = Spec.sclR (Spec.cmax (D x0 x1) (i 1).val (i 0).val) := by
  rw [val_main_v90_apply]
  exact v78_at x0 x1 _ rfl rfl

end Cert.ReferenceIdeal.Hand
end
-- ==== Proof.Scale.lean ====
module

public import proofs.«01_k».proof.Proof.RefQuant
public import Mathlib.Analysis.SpecialFunctions.Log.Basic
public import Mathlib.Analysis.SpecialFunctions.Pow.Real
public import Mathlib.Data.Fintype.Fin

/-! The kernel's scale, counted from powers of two, is the reference's, computed by a logarithm. -/

@[expose] public section

set_option maxRecDepth 16384

noncomputable section

namespace Cert.Spec

open Idealize.ShloMosaic

/-- The word with exponent field `k` and nothing else denotes a power of two. -/
theorem word_pow (k : ℕ) (h1 : 1 ≤ k) (h2 : k ≤ 254) :
    Ideal.ofBits FTy.f32 (BitVec.ofNat 32 (k * 8388608)) = (((2 : ℝ) ^ ((k : ℤ) - 127) : ℝ) : EReal) := by
  have hb : ∀ k : Fin 255, ((BitVec.ofNat 32 (k.val * 8388608)).extractLsb' 23 8).toNat = k.val
      ∧ ((BitVec.ofNat 32 (k.val * 8388608)).extractLsb' 0 23).toNat = 0
      ∧ ((BitVec.ofNat 32 (k.val * 8388608)).extractLsb' 31 1 == 1#1) = false := by decide +kernel
  obtain ⟨e, f, n⟩ := hb ⟨k, by omega⟩
  dsimp only at e f n
  show Ideal.ieee 8 23 _ = _
  unfold Ideal.ieee
  simp only [e, f, n]
  rw [if_neg (by omega), if_neg (by omega)]
  congr 1
  have : (2 : ℝ) ^ ((k : ℤ) - 127) = (2 : ℝ) ^ (23 : ℤ) * (2 : ℝ) ^ ((k : ℤ) - (2 ^ (8 - 1) - 1) - (23 : ℕ)) := by
    rw [← zpow_add₀ (by norm_num)]; congr 1; push_cast; ring
  rw [this]
  norm_num

/-- The last of the 255 words denotes infinity. -/
theorem word_top : Ideal.ofBits FTy.f32 (BitVec.ofNat 32 (255 * 8388608)) = ⊤ := by
  rw [show BitVec.ofNat 32 (255 * 8388608) = 0x7F800000#32 by decide +kernel]
  simp [Ideal.ofBits, Ideal.ieee]

theorem shl_word : ∀ k : Fin 255, IntOp.shli ArithUnit.vector (IntOp.addi (BitVec.ofNat 32 k.val) 1#32) 23#32
    = BitVec.ofNat 32 ((k.val + 1) * 8388608) := by decide +kernel

/-- A sum of equal words over those indices where a condition holds is the word times their number. -/
theorem fold_count {ι : Type} [DecidableEq ι] (P : ι → Prop) [DecidablePred P] (s : Finset ι) :
    Finset.fold IntOp.addi (0#32) (fun k => if P k then 8388608#32 else 0#32) s = BitVec.ofNat 32 ((s.filter P).card * 8388608) := by
  induction s using Finset.induction_on with
  | empty => simp
  | insert a s ha ih =>
    rw [Finset.fold_insert ha, ih, Finset.filter_insert]
    split
    · rw [Finset.card_insert_of_notMem (by simp [ha])]
      unfold IntOp.addi
      rw [add_mul, BitVec.ofNat_add, one_mul]
      exact BitVec.add_comm _ _
    · unfold IntOp.addi
      exact BitVec.zero_add _

/-- A power of two is reached exactly when its exponent is at most the whole part of the logarithm to base two. -/
theorem zpow_le_iff {t : ℝ} (ht : 0 < t) (z : ℤ) : (2 : ℝ) ^ z ≤ t ↔ z ≤ ⌊Real.log t / Real.log 2⌋ := by
  have h2 : 0 < Real.log 2 := Real.log_pos (by norm_num)
  rw [Int.le_floor, le_div_iff₀ h2, ← Real.log_zpow, Real.log_le_log_iff (by positivity) ht]

/-- The field of a group is the number of powers of two, from `2 ^ -126` up, that the quotient reaches. -/
theorem expo_of_count (a : EReal) (n : ℕ) (hn : n ≤ 252) {t : ℝ} (ht : a * Ideal.ofBits FTy.f32 991054117#32 = (t : EReal))
    (h : ∀ k : ℕ, k < 254 → ((2 : ℝ) ^ ((k : ℤ) - 126) ≤ t ↔ k < n)) : expo a = BitVec.ofNat 32 (n * 8388608) := by
  unfold expo
  rw [fold_count, ht]
  congr 2
  have hc : (Finset.univ.filter fun k : Fin 255 =>
      Ideal.ofBits FTy.f32 (IntOp.shli ArithUnit.vector (IntOp.addi (BitVec.ofNat 32 ↑k) 1#32) 23#32) ≤ (t : EReal))
      = Finset.univ.filter fun k : Fin 255 => k.val < n := by
    refine Finset.filter_congr fun k _ => ?_
    rw [shl_word k]
    by_cases hk : k.val < 254
    · rw [word_pow _ (by omega) (by omega), EReal.coe_le_coe_iff, ← h _ hk]
      have : ((k.val + 1 : ℕ) : ℤ) - 127 = (k.val : ℤ) - 126 := by push_cast; ring
      rw [this]
    · have e : k.val = 254 := by have := k.isLt; omega
      rw [e, word_top]
      refine ⟨fun h => absurd h (by simp), fun h => absurd h (by omega)⟩
  rw [hc, Fin.card_filter_val_lt]
  omega

theorem scl_word : ∀ n : Fin 253, Scalar.select
    (IntOp.ori (IntOp.cmpi CmpIPredicate.eq (BitVec.ofNat 32 (n.val * 8388608)) 0#32) (IntOp.cmpi CmpIPredicate.eq (BitVec.ofNat 32 (n.val * 8388608)) 2139095040#32))
    1065353216#32 (IntOp.addi (BitVec.ofNat 32 (n.val * 8388608)) 8388608#32)
    = BitVec.ofNat 32 ((if n.val = 0 then 127 else n.val + 1) * 8388608) := by decide +kernel

theorem inv_word : ∀ n : Fin 253, Scalar.select
    (IntOp.ori (IntOp.cmpi CmpIPredicate.eq (BitVec.ofNat 32 (n.val * 8388608)) 0#32) (IntOp.cmpi CmpIPredicate.eq (BitVec.ofNat 32 (n.val * 8388608)) 2139095040#32))
    1065353216#32 (IntOp.subi 2122317824#32 (BitVec.ofNat 32 (n.val * 8388608)))
    = BitVec.ofNat 32 ((if n.val = 0 then 127 else 253 - n.val) * 8388608) := by decide +kernel

/-- The kernel's scale and inverse from the count. -/
theorem scl_of_count {a : EReal} {n : ℕ} (hn : n ≤ 252) (h : expo a = BitVec.ofNat 32 (n * 8388608)) :
    scl a = (((2 : ℝ) ^ (if n = 0 then (0 : ℤ) else (n : ℤ) - 126) : ℝ) : EReal) := by
  unfold scl triv
  rw [h, scl_word ⟨n, by omega⟩]
  dsimp only
  rw [word_pow _ (by split <;> omega) (by split <;> omega)]
  congr 2
  split <;> push_cast <;> ring

theorem inv_of_count {a : EReal} {n : ℕ} (hn : n ≤ 252) (h : expo a = BitVec.ofNat 32 (n * 8388608)) :
    inv a = (((2 : ℝ) ^ (if n = 0 then (0 : ℤ) else 126 - (n : ℤ)) : ℝ) : EReal) := by
  unfold inv triv
  rw [h, inv_word ⟨n, by omega⟩]
  dsimp only
  rw [word_pow _ (by split <;> omega) (by split <;> omega)]
  congr 2
  split
  · norm_num
  · push_cast [Nat.cast_sub (show n ≤ 253 by omega)]; ring

/-! The reference's side. -/

theorem w_two : Ideal.ofBits FTy.f32 0x40000000#32 = ((2 : ℝ) : EReal) := by
  rw [show (0x40000000#32) = BitVec.ofNat 32 (128 * 8388608) from rfl, word_pow 128 (by omega) (by omega)]
  norm_num

theorem w_min : Ideal.ofBits FTy.f32 0x00800000#32 = (((2 : ℝ) ^ (-126 : ℤ) : ℝ) : EReal) := by
  rw [show (0x00800000#32) = BitVec.ofNat 32 (1 * 8388608) from rfl, word_pow 1 (by omega) (by omega)]
  norm_num

/-- Two to a whole exponent. -/
theorem pow_two (z : ℤ) : Ideal.pow ((2 : ℝ) : EReal) (((z : ℝ) : ℝ) : EReal) = (((2 : ℝ) ^ z : ℝ) : EReal) := by
  show ((Real.rpow 2 (z : ℝ) : ℝ) : EReal) = _
  congr 1
  exact Real.rpow_intCast 2 z

/-- Below the least normal number the reference's exponent is zero. -/
theorem eR_small {a : EReal} {t : ℝ} (ht : a * Ideal.ofBits FTy.f32 991054117#32 = (t : EReal)) (h : t < (2 : ℝ) ^ (-126 : ℤ)) : eR a = ((0 : ℤ) : ℝ) := by
  have e : tR a = 0 := by
    unfold tR
    simp only [Ideal.mulf_def, Ideal.ofBits_def, Ideal.cmpf_def, Ideal.ofBits_zero_f32, w_min, ht, Ideal.cmp, EReal.coe_lt_coe_iff, h, decide_true]
    rfl
  unfold eR
  rw [e]
  simp only [Ideal.ofBits_def, Ideal.cmpf_def, Ideal.ofBits_zero_f32, Ideal.cmp, decide_true]
  simp [Scalar.select]

/-- From there on it is one more than the whole part of the logarithm. -/
theorem eR_large {a : EReal} {t : ℝ} (ht : a * Ideal.ofBits FTy.f32 991054117#32 = (t : EReal)) (h : (2 : ℝ) ^ (-126 : ℤ) ≤ t) :
    eR a = (((⌊Real.log t / Real.log 2⌋ + 1 : ℤ) : ℝ) : EReal) := by
  have tp : 0 < t := lt_of_lt_of_le (by positivity) h
  have e : tR a = t := by
    unfold tR
    simp only [Ideal.mulf_def, Ideal.ofBits_def, Ideal.cmpf_def, Ideal.ofBits_zero_f32, w_min, ht, Ideal.cmp, EReal.coe_lt_coe_iff, not_lt.mpr h, decide_false]
    rfl
  have ne : ¬ ((t : EReal) = 0) := fun h0 => tp.ne' (EReal.coe_eq_zero.mp h0)
  have l2 : Ideal.log ((2 : ℝ) : EReal) = ((Real.log 2 : ℝ) : EReal) := if_neg (by norm_num)
  have lt : Ideal.log (t : EReal) = ((Real.log t : ℝ) : EReal) := if_neg (not_le.mpr tp)
  have h2 : 0 < Real.log 2 := Real.log_pos (by norm_num)
  have d : Ideal.div ((Real.log t : ℝ) : EReal) ((Real.log 2 : ℝ) : EReal) = ((Real.log t / Real.log 2 : ℝ) : EReal) := by
    unfold Ideal.div
    rw [if_neg (fun h0 => h2.ne' (EReal.coe_eq_zero.mp h0)), ← EReal.coe_inv, ← EReal.coe_mul, div_eq_mul_inv]
  unfold eR
  rw [e]
  simp only [Ideal.ofBits_def, Ideal.cmpf_def, Ideal.ofBits_zero_f32, Ideal.cmp, ne, decide_false, Ideal.hostUnary_log_def, Ideal.hostUnary_floor_def,
    Ideal.hostDivf_def, Ideal.addf_def, w_two, l2, lt, d, Ideal.ofBits_one_f32]
  show ((⌊Real.log t / Real.log 2⌋ : ℝ) : EReal) + 1 = _
  push_cast
  rfl

/-- The two scales agree, and the two inverses, for a group whose largest magnitude is a real number such that the
    quotient lies below `2 ^ 126`. -/
theorem scale_eq {a : EReal} {t : ℝ} (ht : a * Ideal.ofBits FTy.f32 991054117#32 = (t : EReal)) (hb : t < (2 : ℝ) ^ (126 : ℤ)) :
    scl a = sclR a ∧ inv a = invR a := by
  by_cases h : t < (2 : ℝ) ^ (-126 : ℤ)
  · have c := expo_of_count a 0 (by omega) ht fun k hk => by
      refine ⟨fun h' => absurd (lt_of_le_of_lt h' h) (not_lt.mpr (zpow_le_zpow_right₀ (by norm_num) (by omega))), fun h' => absurd h' (by omega)⟩
    rw [scl_of_count (by omega) c, inv_of_count (by omega) c]
    unfold sclR invR
    rw [eR_small ht h]
    simp only [Ideal.hostPowf_def, Ideal.hostNegf_def, Ideal.negf_def, Ideal.ofBits_def, w_two, ← EReal.coe_neg, ← Int.cast_neg, pow_two]
    exact ⟨rfl, by simp⟩
  · have h := not_lt.mp h
    have tp : 0 < t := lt_of_lt_of_le (by positivity) h
    obtain ⟨n, hn⟩ : ∃ n : ℕ, (n : ℤ) = ⌊Real.log t / Real.log 2⌋ + 127 :=
      ⟨(⌊Real.log t / Real.log 2⌋ + 127).toNat, Int.toNat_of_nonneg (by have := (zpow_le_iff tp _).mp h; omega)⟩
    have lo := (zpow_le_iff tp _).mp h
    have hi : ⌊Real.log t / Real.log 2⌋ < 126 := by
      by_contra hc
      exact absurd ((zpow_le_iff tp 126).mpr (not_lt.mp hc)) (not_le.mpr hb)
    have c := expo_of_count a n (by omega) ht fun k hk => by
      rw [zpow_le_iff tp]; omega
    rw [scl_of_count (by omega) c, inv_of_count (by omega) c]
    unfold sclR invR
    rw [eR_large ht h]
    simp only [Ideal.hostPowf_def, Ideal.hostNegf_def, Ideal.negf_def, Ideal.ofBits_def, w_two, ← EReal.coe_neg, ← Int.cast_neg, pow_two]
    rw [if_neg (by omega), if_neg (by omega)]
    exact ⟨by congr 2; omega, by congr 2; omega⟩

end Cert.Spec
end
-- ==== Proof.Bound.lean ====
module

public import proofs.«01_k».proof.Proof.Scale

/-! On arguments of moderate size the kernel's gradient and the reference's are the same real number, and a group's
scale is the same on both sides. -/

@[expose] public section

set_option maxRecDepth 16384

noncomputable section

namespace Cert.Spec

open Idealize.ShloMosaic

/-- A value that is a real number of magnitude at most `B`. -/
def Mod (B : ℝ) (v : EReal) : Prop := ∃ r : ℝ, v = (r : EReal) ∧ |r| ≤ B

/-- The sigmoid of a real number. -/
def sg (g : ℝ) : ℝ := (1 + Real.exp (-g))⁻¹

theorem sg_pos (g : ℝ) : 0 < sg g := by unfold sg; positivity

theorem sg_le (g : ℝ) : sg g ≤ 1 := by
  unfold sg
  exact inv_le_one_of_one_le₀ (by have := Real.exp_pos (-g); linarith)

theorem logistic_coe (g : ℝ) : Ideal.logistic (g : EReal) = ((sg g : ℝ) : EReal) := by
  have hp : (1 + Real.exp (-g)) ≠ 0 := by positivity
  unfold Ideal.logistic sg
  rw [← EReal.coe_neg]
  show Ideal.div 1 (1 + ((Real.exp (-g) : ℝ) : EReal)) = _
  rw [← EReal.coe_one, ← EReal.coe_add]
  unfold Ideal.div
  rw [if_neg (fun h => hp (EReal.coe_eq_zero.mp h)), ← EReal.coe_inv, ← EReal.coe_mul, one_mul]

/-- The reference's sigmoid is the same function. -/
theorem sgR_eq (g : EReal) : sgR g = Ideal.logistic g := by
  unfold sgR Ideal.logistic
  simp only [Ideal.hostDivf_def, Ideal.addf_def, Ideal.hostUnary_exp_def, Ideal.hostNegf_def, Ideal.negf_def, Ideal.ofBits_def, Ideal.ofBits_one_f32]

/-- The gate's gradient: both groupings give the same real number. -/
theorem dg_coe (g u d : ℝ) : dg g u d = ((d * u * sg g * (1 + g * (1 - sg g)) : ℝ) : EReal) := by
  unfold dg
  rw [logistic_coe, ← EReal.coe_one]
  simp only [← EReal.coe_mul, ← EReal.coe_add, ← EReal.coe_sub]
  congr 1; ring

theorem dgR_coe (g u d : ℝ) : dgR g u d = ((d * u * sg g * (1 + g * (1 - sg g)) : ℝ) : EReal) := by
  unfold dgR
  rw [sgR_eq, logistic_coe]
  simp only [Ideal.mulf_def, Ideal.addf_def, Ideal.subf_def, Ideal.ofBits_def, Ideal.ofBits_one_f32]
  rw [← EReal.coe_one]
  simp only [← EReal.coe_mul, ← EReal.coe_add, ← EReal.coe_sub]

theorem du_coe (g d : ℝ) : du g d = ((d * g * sg g : ℝ) : EReal) := by
  unfold du
  rw [logistic_coe]
  simp only [← EReal.coe_mul]
  congr 1; ring

theorem duR_coe (g d : ℝ) : duR g d = ((d * g * sg g : ℝ) : EReal) := by
  unfold duR
  rw [sgR_eq, logistic_coe]
  simp only [Ideal.mulf_def, ← EReal.coe_mul]

theorem prod_le {M d u s w : ℝ} (hM : 1 ≤ M) (hd : |d| ≤ M) (hu : |u| ≤ M) (hs : |s| ≤ 1) (hw : |w| ≤ 2 * M) :
    |d * u * s * w| ≤ 2 * M ^ 3 := by
  rw [abs_mul, abs_mul, abs_mul]
  calc |d| * |u| * |s| * |w| ≤ M * M * 1 * (2 * M) := by gcongr
    _ = 2 * M ^ 3 := by ring

theorem one_add_le {M g s : ℝ} (hM : 1 ≤ M) (hg : |g| ≤ M) (h0 : 0 < s) (h1 : s ≤ 1) : |1 + g * (1 - s)| ≤ 2 * M := by
  have h : |g * (1 - s)| ≤ M := by
    rw [abs_mul, abs_of_nonneg (show 0 ≤ 1 - s by linarith)]
    calc |g| * (1 - s) ≤ |g| * 1 := by gcongr; linarith
      _ ≤ M := by linarith
  calc |1 + g * (1 - s)| ≤ |1| + |g * (1 - s)| := abs_add_le _ _
    _ ≤ 2 * M := by rw [abs_one]; linarith

/-- On moderate arguments the two gradients agree at every position and are moderate. -/
theorem dx_eq {x y : ℕ → ℕ → EReal} {M : ℝ} (hM : 1 ≤ M) (hx : ∀ i c, Mod M (x i c)) (hy : ∀ i c, Mod M (y i c)) (i c : ℕ) :
    dxR x y i c = dx x y i c ∧ Mod (2 * M ^ 3) (dx x y i c) := by
  unfold dxR dx
  obtain ⟨d, ed, hd⟩ := hy i (128 * (c / 256) + c % 128)
  split
  · obtain ⟨g, eg, hg⟩ := hx i c
    obtain ⟨u, eu, hu⟩ := hx i (c + 128)
    rw [ed, eg, eu, dgR_coe, dg_coe]
    exact ⟨rfl, _, rfl, prod_le hM hd hu (by rw [abs_of_pos (sg_pos g)]; exact sg_le g) (one_add_le hM hg (sg_pos g) (sg_le g))⟩
  · obtain ⟨g, eg, hg⟩ := hx i (c - 128)
    rw [ed, eg, duR_coe, du_coe]
    refine ⟨rfl, _, rfl, ?_⟩
    have := prod_le (w := 1) hM hd hg (by rw [abs_of_pos (sg_pos g)]; exact sg_le g) (by rw [abs_one]; linarith)
    rwa [mul_one] at this

theorem coe_max (a b : ℝ) : ((max a b : ℝ) : EReal) = max (a : EReal) (b : EReal) := EReal.coe_strictMono.monotone.map_max

theorem word_bot : Ideal.ofBits FTy.f32 4286578688#32 = ⊥ := by
  rw [show (4286578688#32) = 0xFF800000#32 from rfl]
  simp [Ideal.ofBits, Ideal.ieee]

theorem absf_coe (r : ℝ) : FloatOps.absf (F := Ideal) (φ := .f32) (r : EReal) = ((|r| : ℝ) : EReal) := by
  show max (r : EReal) (-(r : EReal)) = _
  rw [← EReal.coe_neg, ← coe_max]
  rfl

/-- The largest magnitude of moderate values is moderate. -/
theorem amax_mod {f : Fin 128 → EReal} {B : ℝ} (h : ∀ k, Mod B (f k)) : ∃ r : ℝ, amax f = (r : EReal) ∧ r ≤ B := by
  unfold amax
  rw [word_bot]
  have key : ∀ s : Finset (Fin 128), (s = ∅ ∧ Finset.fold max (⊥ : EReal) (fun k => FloatOps.absf (F := Ideal) (φ := .f32) (f k)) s = ⊥)
      ∨ ∃ r : ℝ, Finset.fold max (⊥ : EReal) (fun k => FloatOps.absf (F := Ideal) (φ := .f32) (f k)) s = (r : EReal) ∧ r ≤ B := by
    intro s
    induction s using Finset.induction_on with
    | empty => exact .inl ⟨rfl, Finset.fold_empty⟩
    | insert a s ha ih =>
      right
      obtain ⟨q, eq, hq⟩ := h a
      rw [Finset.fold_insert ha, eq, absf_coe]
      rcases ih with ⟨-, e⟩ | ⟨r, e, hr⟩
      · rw [e]; exact ⟨|q|, by simp, hq⟩
      · rw [e, ← coe_max]; exact ⟨_, rfl, max_le hq hr⟩
  rcases key Finset.univ with ⟨e, -⟩ | h
  · exact absurd (Finset.mem_univ (0 : Fin 128)) (by rw [e]; simp)
  · exact h

/-- The kernel's factor for 1/448 is a positive real below `2 ^ -8`. -/
theorem kappa : ∃ k : ℝ, Ideal.ofBits FTy.f32 991054117#32 = (k : EReal) ∧ 0 < k ∧ k ≤ 1 / 256 := by
  have e1 : ((991054117#32).extractLsb' 23 8).toNat = 118 := by decide
  have e2 : ((991054117#32).extractLsb' 0 23).toNat = 1198373 := by decide
  have e3 : ((991054117#32).extractLsb' 31 1 == 1#1) = false := by decide
  refine ⟨9586981 * (2 : ℝ) ^ (-32 : ℤ), ?_, by positivity, by norm_num⟩
  show Ideal.ieee 8 23 (991054117#32) = _
  unfold Ideal.ieee
  simp only [e1, e2, e3]
  rw [if_neg (by norm_num), if_neg (by norm_num)]
  norm_num

/-- The two scales and inverses agree on a group of moderate values. -/
theorem scale_mod {f : Fin 128 → EReal} (h : ∀ k, Mod (2 * (2 ^ 44) ^ 3) (f k)) :
    scl (amax f) = sclR (amax f) ∧ inv (amax f) = invR (amax f) := by
  obtain ⟨r, e, hr⟩ := amax_mod h
  obtain ⟨k, ek, h0, hk⟩ := kappa
  refine scale_eq (t := r * k) (by rw [e, ek, EReal.coe_mul]) ?_
  have : r * k ≤ (2 * (2 ^ 44) ^ 3) * (1 / 256) := by
    calc r * k ≤ (2 * (2 ^ 44) ^ 3) * k := by gcongr
      _ ≤ _ := by gcongr
  refine lt_of_le_of_lt this ?_
  norm_num

variable {x y : ℕ → ℕ → EReal} (hx : ∀ i c, Mod (2 ^ 44) (x i c)) (hy : ∀ i c, Mod (2 ^ 44) (y i c))

include hx hy

theorem dxR_eq : dxR x y = dx x y :=
  funext fun i => funext fun c => (dx_eq (by norm_num) hx hy i c).1

theorem dx_mod (i c : ℕ) : Mod (2 * (2 ^ 44) ^ 3) (dx x y i c) := (dx_eq (by norm_num) hx hy i c).2

/-- The four results agree at every position. -/
theorem codes_eq (i c : ℕ) : codesR (dxR x y) i c = codes (dx x y) i c := by
  rw [dxR_eq hx hy]; unfold codesR codes rmax
  rw [(scale_mod fun k => dx_mod hx hy _ _).2]

theorem codesT_eq (i c : ℕ) : codesTR (dxR x y) i c = codesT (dx x y) i c := by
  rw [dxR_eq hx hy]; unfold codesTR codesT cmax
  rw [(scale_mod fun k => dx_mod hx hy _ _).2]

theorem rscale_eq (i q : ℕ) : sclR (rmax (dxR x y) i q) = scl (rmax (dx x y) i q) := by
  rw [dxR_eq hx hy]; unfold rmax
  rw [(scale_mod fun k => dx_mod hx hy _ _).1]

theorem cscale_eq (p c : ℕ) : sclR (cmax (dxR x y) p c) = scl (cmax (dx x y) p c) := by
  rw [dxR_eq hx hy]; unfold cmax
  rw [(scale_mod fun k => dx_mod hx hy _ _).1]

end Cert.Spec
end
-- ==== Proof.Moderate.lean ====
module

public import proofs.«01_k».proof.Proof.Bound
public import proofs.«01_k».proof.Proof.Gen.Pre_moderate
public import Idealize.ShloMosaic.Lib.ReduceAll

/-! What the precondition says of the arguments: every element is a real number of magnitude at most `2 ^ 44`. -/

@[expose] public section

set_option maxRecDepth 16384

noncomputable section

namespace Cert.Spec

open Idealize.ShloMosaic

theorem word_44 : Ideal.ofBits FTy.f32 0x55800000#32 = (((2 : ℝ) ^ 44 : ℝ) : EReal) := by
  rw [show (0x55800000#32) = BitVec.ofNat 32 (171 * 8388608) from rfl, word_pow 171 (by omega) (by omega)]
  norm_num

/-- An extended real whose magnitude compares below the bound is a real number below it. -/
theorem mod_of_cmp {v : EReal} (h : Ideal.cmp .ole (max v (-v)) (Ideal.ofBits FTy.f32 0x55800000#32) = 1#1) : Mod (2 ^ 44) v := by
  rw [word_44] at h
  have hle : max v (-v) ≤ (((2 : ℝ) ^ 44 : ℝ) : EReal) := by
    by_contra hn
    unfold Ideal.cmp at h
    dsimp only at h
    rw [decide_eq_false hn] at h
    exact absurd h (by decide)
  induction v with
  | bot => exact absurd ((le_max_right _ _).trans hle) (by rw [EReal.neg_bot]; exact not_le.mpr (EReal.coe_lt_top _))
  | top => exact absurd ((le_max_left _ _).trans hle) (not_le.mpr (EReal.coe_lt_top _))
  | coe r =>
    rw [← EReal.coe_neg, ← coe_max, EReal.coe_le_coe_iff] at hle
    exact ⟨r, rfl, hle⟩

theorem and_one {a b : BitVec 1} (h : IntOp.andi a b = 1#1) : a = 1#1 ∧ b = 1#1 := by
  revert a b; decide

instance : Subsingleton Cert.Pre_moderate.S_.Idx := ⟨fun a b => funext fun i => i.elim0⟩

/-- The precondition, element by element. -/
theorem moderate_elements {x : Cert.Pre_moderate.S11x2048x5120.Idx → EReal} {y : Cert.Pre_moderate.S11x2048x2560.Idx → EReal}
    (h : Cert.Pre_moderate.fn (F := Ideal) x y = fun _ => 1#1) : (∀ i, Mod (2 ^ 44) (x i)) ∧ ∀ i, Mod (2 ^ 44) (y i) := by
  have h0 := congrFun h (fun i => i.elim0)
  dsimp only [Cert.Pre_moderate.fn] at h0
  obtain ⟨h1, h2⟩ := and_one h0
  refine ⟨fun i => ?_, fun i => ?_⟩
  · exact mod_of_cmp (Host.reduce_andi_all _ _ _ _ _ h1 i)
  · exact mod_of_cmp (Host.reduce_andi_all _ _ _ _ _ h2 i)

/-- A moderate array, flattened, is moderate everywhere: outside it is zero. -/
theorem flat_mod {C : ℕ} {x : (⟨3, ![11, 2048, C]⟩ : Shape).Idx → EReal} (h : ∀ i, Mod (2 ^ 44) (x i)) (i c : ℕ) : Mod (2 ^ 44) (flat x i c) := by
  unfold flat
  split
  · exact h _
  · exact ⟨0, by simp, by norm_num⟩

end Cert.Spec
end
-- ==== Proof.Ends.lean ====
module

public import proofs.«01_k».proof.Proof.KernelEnds
public import proofs.«01_k».proof.Proof.Moderate

/-! The kernel and the reference end with the same four results, from arguments of moderate size. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem

variable (m : (ℓ : Loc nD τ sig) → Buf (Elt Ideal) ℓ) (ρ : Dev nD → PrngReg)

/-- The reference ends with its arguments unchanged; it has no semaphore. -/
theorem frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2.2.2.2, by funext s; exact nomatch s⟩) (Value.run m ρ)

/-- The gradient of the reference's arguments, as the kernel groups it. -/
def argD (c : Dev nD) : ℕ → ℕ → EReal :=
  Spec.dx (Spec.flat (C := 5120) (m ((c.tc : Thread nD τ).loc main_arg0))) (Spec.flat (C := 2560) (m ((c.tc : Thread nD τ).loc main_arg1)))

/-- The reference's run: its four results are the kernel's formulas, from moderate arguments, which stay. -/
theorem run_values (h : ∀ c : Dev nD, (∀ i, Spec.Mod (2 ^ 44) (m ((c.tc : Thread nD τ).loc main_arg0) i)) ∧ ∀ i, Spec.Mod (2 ^ 44) (m ((c.tc : Thread nD τ).loc main_arg1) i)) :
    θ_run defs (onTc (τ := τ) (main (F := Ideal))) ⟨m, fun _ => 0, ρ⟩ (fun r => ∀ c : Dev nD,
      r.2.mem ((c.tc : Thread nD τ).loc main_v87) = (fun i : S22528x5120.Idx => Spec.codes (argD m c) (i 0).val (i 1).val)
      ∧ r.2.mem ((c.tc : Thread nD τ).loc main_v49) = (fun i : S22528x40.Idx => Spec.scl (Spec.rmax (argD m c) (i 0).val (i 1).val))
      ∧ r.2.mem ((c.tc : Thread nD τ).loc main_v89) = (fun i : S5120x22528.Idx => Spec.codesT (argD m c) (i 1).val (i 0).val)
      ∧ r.2.mem ((c.tc : Thread nD τ).loc main_v90) = (fun i : S5120x176.Idx => Spec.scl (Spec.cmax (argD m c) (i 1).val (i 0).val))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => by
    obtain ⟨r0, r1, r2, r3, ra⟩ := hr c
    have hx := Spec.flat_mod (C := 5120) (h c).1
    have hy := Spec.flat_mod (C := 2560) (h c).2
    refine ⟨r0.trans ?_, r1.trans ?_, r2.trans ?_, r3.trans ?_, ra⟩
    · rw [val_main_v87_eq]; funext i; exact (v87_at _ _ i).trans (Spec.codes_eq hx hy _ _)
    · rw [val_main_v49_eq]; funext i; exact (v49_at _ _ i rfl rfl).trans (Spec.rscale_eq hx hy _ _)
    · rw [val_main_v89_eq]; funext i; exact (v89_at _ _ i).trans (Spec.codesT_eq hx hy _ _)
    · rw [val_main_v90_eq]; funext i; exact (v90_at _ _ i).trans (Spec.cscale_eq hx hy _ _)) (Value.run m ρ)

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_moderate
public import proofs.«01_k».proof.Proof.FrameKernel
public import proofs.«01_k».proof.Proof.Ends
public import Idealize.ShloMosaic.Adequacy
public import Idealize.ShloMosaic.Init

@[expose] public section

noncomputable section

namespace Cert.Proof

open Idealize.ShloMosaic Idealize.SL.Sem Cert.Kernel

/-- From moderate arguments, the same on both sides, the kernel and the reference end with the same four results. -/
theorem algebraic : algebraic_KernelIdeal_ReferenceIdeal_pre_moderate := fun m g m' g' hpre hm =>
  ⟨fun c (i : Cert.KernelIdeal.S22528x5120.Idx) => Spec.codes (Cert.KernelIdeal.Hand.argD m c) (i 0).val (i 1).val,
    fun c (i : Cert.KernelIdeal.S22528x40.Idx) => Spec.scl (Spec.rmax (Cert.KernelIdeal.Hand.argD m c) (i 0).val (i 1).val),
    fun c (i : Cert.KernelIdeal.S5120x22528.Idx) => Spec.codesT (Cert.KernelIdeal.Hand.argD m c) (i 1).val (i 0).val,
    fun c (i : Cert.KernelIdeal.S5120x176.Idx) => Spec.scl (Spec.cmax (Cert.KernelIdeal.Hand.argD m c) (i 1).val (i 0).val),
    Cert.KernelIdeal.Hand.run_values m g, by
    have hD : ∀ c, Cert.ReferenceIdeal.Hand.argD m' c = Cert.KernelIdeal.Hand.argD m c := fun c =>
      congrArg₂ (fun x y => Spec.dx (Spec.flat (C := 5120) x) (Spec.flat (C := 2560) y)) (hm c).1 (hm c).2
    have h := Cert.ReferenceIdeal.Hand.run_values m' g' fun c => by
      obtain ⟨hx, hy⟩ := Spec.moderate_elements (hpre c)
      exact ⟨fun i => (congrArg (Spec.Mod (2 ^ 44)) (congrFun (hm c).1 i)).mpr (hx i),
        fun i => (congrArg (Spec.Mod (2 ^ 44)) (congrFun (hm c).2 i)).mpr (hy i)⟩
    refine (θ_run _ _ _).mono (fun r hr c => ?_) h
    have hr := hr c
    rw [hD c] at hr
    exact hr⟩

theorem claim : Cert.Claim := ⟨Cert.Kernel.Gen.facts, Cert.KernelIdeal.Gen.facts, Cert.ReferenceIdeal.Gen.facts, Cert.Pre_moderate.Gen.facts, fun m ρ _ => Cert.Kernel.Hand.frame m ρ, fun m ρ _ => Cert.KernelIdeal.Hand.frame m ρ,
  fun m ρ _ => Cert.KernelIdeal.Hand.frame m ρ, fun m ρ _ => Cert.ReferenceIdeal.Hand.frame m ρ,
  fun m ρ _ => Cert.ReferenceIdeal.Hand.frame m ρ, trivial, algebraic⟩

end Cert.Proof

end
